-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![8192, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x256 : Shape := ⟨2, ![128, 256]⟩
abbrev S_ : Shape := ⟨0, ![]⟩
abbrev S4x256 : Shape := ⟨2, ![4, 256]⟩
abbrev S128x255 : Shape := ⟨2, ![128, 255]⟩
abbrev S128x1 : Shape := ⟨2, ![128, 1]⟩
abbrev S128x254 : Shape := ⟨2, ![128, 254]⟩
abbrev S128x2 : Shape := ⟨2, ![128, 2]⟩
abbrev S128x252 : Shape := ⟨2, ![128, 252]⟩
abbrev S128x4 : Shape := ⟨2, ![128, 4]⟩
abbrev S128x248 : Shape := ⟨2, ![128, 248]⟩
abbrev S128x8 : Shape := ⟨2, ![128, 8]⟩
abbrev S128x240 : Shape := ⟨2, ![128, 240]⟩
abbrev S128x16 : Shape := ⟨2, ![128, 16]⟩
abbrev S128x224 : Shape := ⟨2, ![128, 224]⟩
abbrev S128x32 : Shape := ⟨2, ![128, 32]⟩
abbrev S128x192 : Shape := ⟨2, ![128, 192]⟩
abbrev S128x64 : Shape := ⟨2, ![128, 64]⟩
abbrev S128x128 : Shape := ⟨2, ![128, 128]⟩
abbrev S124x256 : Shape := ⟨2, ![124, 256]⟩
abbrev S120x256 : Shape := ⟨2, ![120, 256]⟩
abbrev S8x256 : Shape := ⟨2, ![8, 256]⟩
abbrev S112x256 : Shape := ⟨2, ![112, 256]⟩
abbrev S16x256 : Shape := ⟨2, ![16, 256]⟩
abbrev S96x256 : Shape := ⟨2, ![96, 256]⟩
abbrev S32x256 : Shape := ⟨2, ![32, 256]⟩
abbrev S64x256 : Shape := ⟨2, ![64, 256]⟩

abbrev nBuf : Space → Nat
  | .hbm => 2
  | .vmem => 5
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_dev16 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 32 := Scalar.xori v2 c16_i32
  let c1_i32_46 : BitVec 32 := 1#32
  let v50 : BitVec 32 := Scalar.muli v49 c1_i32_46
  let v51 : BitVec 32 := Scalar.addi c0_i32_47 v50
  v51.toNat
def k0_dev17 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 32 := Scalar.xori v2 c17_i32
  let c1_i32_49 : BitVec 32 := 1#32
  let v53 : BitVec 32 := Scalar.muli v52 c1_i32_49
  let v54 : BitVec 32 := Scalar.addi c0_i32_50 v53
  v54.toNat
def k0_dev18 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 32 := Scalar.xori v2 c18_i32
  let c1_i32_52 : BitVec 32 := 1#32
  let v56 : BitVec 32 := Scalar.muli v55 c1_i32_52
  let v57 : BitVec 32 := Scalar.addi c0_i32_53 v56
  v57.toNat
def k0_dev19 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 32 := Scalar.xori v2 c19_i32
  let c1_i32_55 : BitVec 32 := 1#32
  let v59 : BitVec 32 := Scalar.muli v58 c1_i32_55
  let v60 : BitVec 32 := Scalar.addi c0_i32_56 v59
  v60.toNat
def k0_dev20 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 32 := Scalar.xori v2 c20_i32
  let c1_i32_58 : BitVec 32 := 1#32
  let v62 : BitVec 32 := Scalar.muli v61 c1_i32_58
  let v63 : BitVec 32 := Scalar.addi c0_i32_59 v62
  v63.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 32 := Scalar.xori v2 c21_i32
  let c1_i32_61 : BitVec 32 := 1#32
  let v65 : BitVec 32 := Scalar.muli v64 c1_i32_61
  let v66 : BitVec 32 := Scalar.addi c0_i32_62 v65
  v66.toNat
def k0_dev22 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.xori v2 c22_i32
  let c1_i32_64 : BitVec 32 := 1#32
  let v68 : BitVec 32 := Scalar.muli v67 c1_i32_64
  let v69 : BitVec 32 := Scalar.addi c0_i32_65 v68
  v69.toNat
def k0_dev23 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 32 := Scalar.xori v2 c23_i32
  let c1_i32_67 : BitVec 32 := 1#32
  let v71 : BitVec 32 := Scalar.muli v70 c1_i32_67
  let v72 : BitVec 32 := Scalar.addi c0_i32_68 v71
  v72.toNat
def k0_dev24 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 32 := Scalar.xori v2 c24_i32
  let c1_i32_70 : BitVec 32 := 1#32
  let v74 : BitVec 32 := Scalar.muli v73 c1_i32_70
  let v75 : BitVec 32 := Scalar.addi c0_i32_71 v74
  v75.toNat
def k0_dev25 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.xori v2 c25_i32
  let c1_i32_73 : BitVec 32 := 1#32
  let v77 : BitVec 32 := Scalar.muli v76 c1_i32_73
  let v78 : BitVec 32 := Scalar.addi c0_i32_74 v77
  v78.toNat
def k0_dev26 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 32 := Scalar.xori v2 c26_i32
  let c1_i32_76 : BitVec 32 := 1#32
  let v80 : BitVec 32 := Scalar.muli v79 c1_i32_76
  let v81 : BitVec 32 := Scalar.addi c0_i32_77 v80
  v81.toNat
def k0_dev27 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 32 := Scalar.xori v2 c27_i32
  let c1_i32_79 : BitVec 32 := 1#32
  let v83 : BitVec 32 := Scalar.muli v82 c1_i32_79
  let v84 : BitVec 32 := Scalar.addi c0_i32_80 v83
  v84.toNat
def k0_dev28 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 32 := Scalar.xori v2 c28_i32
  let c1_i32_82 : BitVec 32 := 1#32
  let v86 : BitVec 32 := Scalar.muli v85 c1_i32_82
  let v87 : BitVec 32 := Scalar.addi c0_i32_83 v86
  v87.toNat
def k0_dev29 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 32 := Scalar.xori v2 c29_i32
  let c1_i32_85 : BitVec 32 := 1#32
  let v89 : BitVec 32 := Scalar.muli v88 c1_i32_85
  let v90 : BitVec 32 := Scalar.addi c0_i32_86 v89
  v90.toNat
def k0_dev30 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 32 := Scalar.xori v2 c30_i32
  let c1_i32_88 : BitVec 32 := 1#32
  let v92 : BitVec 32 := Scalar.muli v91 c1_i32_88
  let v93 : BitVec 32 := Scalar.addi c0_i32_89 v92
  v93.toNat
def k0_dev31 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 32 := Scalar.xori v2 c31_i32
  let c1_i32_91 : BitVec 32 := 1#32
  let v95 : BitVec 32 := Scalar.muli v94 c1_i32_91
  let v96 : BitVec 32 := Scalar.addi c0_i32_92 v95
  v96.toNat
def k0_off1 (d0 : Dev nD) : Fin 2 → Nat :=
  let c4_i32_99 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v105 : BitVec 32 := Scalar.muli c4_i32_99 v2
  let c0_i32_102 : BitVec 32 := 0#32
  ![v105.toNat, 0]
def k0_off2 (d0 : Dev nD) (c0_i32_97 : BitVec 32) : Fin 2 → Nat :=
  let c4_i32_98 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.xori v2 c0_i32_97
  let v104 : BitVec 32 := Scalar.muli c4_i32_98 v103
  let c0_i32_103 : BitVec 32 := 0#32
  ![v104.toNat, 0]
def k0_dev32 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_97 : BitVec 32 := 0#32
  let v103 : BitVec 32 := Scalar.xori v2 c0_i32_97
  let c1_i32_100 : BitVec 32 := 1#32
  let v106 : BitVec 32 := Scalar.muli v103 c1_i32_100
  let v107 : BitVec 32 := Scalar.addi c0_i32_101 v106
  v107.toNat
def k0_dev33 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_104 : BitVec 32 := 1#32
  let v110 : BitVec 32 := Scalar.xori v2 c1_i32_104
  let c1_i32_107 : BitVec 32 := 1#32
  let v113 : BitVec 32 := Scalar.muli v110 c1_i32_107
  let v114 : BitVec 32 := Scalar.addi c0_i32_108 v113
  v114.toNat
def k0_dev34 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_111 : BitVec 32 := 2#32
  let v117 : BitVec 32 := Scalar.xori v2 c2_i32_111
  let c1_i32_114 : BitVec 32 := 1#32
  let v120 : BitVec 32 := Scalar.muli v117 c1_i32_114
  let v121 : BitVec 32 := Scalar.addi c0_i32_115 v120
  v121.toNat
def k0_dev35 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_118 : BitVec 32 := 3#32
  let v124 : BitVec 32 := Scalar.xori v2 c3_i32_118
  let c1_i32_121 : BitVec 32 := 1#32
  let v127 : BitVec 32 := Scalar.muli v124 c1_i32_121
  let v128 : BitVec 32 := Scalar.addi c0_i32_122 v127
  v128.toNat
def k0_dev36 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_125 : BitVec 32 := 4#32
  let v131 : BitVec 32 := Scalar.xori v2 c4_i32_125
  let c1_i32_128 : BitVec 32 := 1#32
  let v134 : BitVec 32 := Scalar.muli v131 c1_i32_128
  let v135 : BitVec 32 := Scalar.addi c0_i32_129 v134
  v135.toNat
def k0_dev37 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_132 : BitVec 32 := 5#32
  let v138 : BitVec 32 := Scalar.xori v2 c5_i32_132
  let c1_i32_135 : BitVec 32 := 1#32
  let v141 : BitVec 32 := Scalar.muli v138 c1_i32_135
  let v142 : BitVec 32 := Scalar.addi c0_i32_136 v141
  v142.toNat
def k0_dev38 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_139 : BitVec 32 := 6#32
  let v145 : BitVec 32 := Scalar.xori v2 c6_i32_139
  let c1_i32_142 : BitVec 32 := 1#32
  let v148 : BitVec 32 := Scalar.muli v145 c1_i32_142
  let v149 : BitVec 32 := Scalar.addi c0_i32_143 v148
  v149.toNat
def k0_dev39 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_146 : BitVec 32 := 7#32
  let v152 : BitVec 32 := Scalar.xori v2 c7_i32_146
  let c1_i32_149 : BitVec 32 := 1#32
  let v155 : BitVec 32 := Scalar.muli v152 c1_i32_149
  let v156 : BitVec 32 := Scalar.addi c0_i32_150 v155
  v156.toNat
def k0_dev40 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_153 : BitVec 32 := 8#32
  let v159 : BitVec 32 := Scalar.xori v2 c8_i32_153
  let c1_i32_156 : BitVec 32 := 1#32
  let v162 : BitVec 32 := Scalar.muli v159 c1_i32_156
  let v163 : BitVec 32 := Scalar.addi c0_i32_157 v162
  v163.toNat
def k0_dev41 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_160 : BitVec 32 := 9#32
  let v166 : BitVec 32 := Scalar.xori v2 c9_i32_160
  let c1_i32_163 : BitVec 32 := 1#32
  let v169 : BitVec 32 := Scalar.muli v166 c1_i32_163
  let v170 : BitVec 32 := Scalar.addi c0_i32_164 v169
  v170.toNat
def k0_dev42 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_167 : BitVec 32 := 10#32
  let v173 : BitVec 32 := Scalar.xori v2 c10_i32_167
  let c1_i32_170 : BitVec 32 := 1#32
  let v176 : BitVec 32 := Scalar.muli v173 c1_i32_170
  let v177 : BitVec 32 := Scalar.addi c0_i32_171 v176
  v177.toNat
def k0_dev43 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_174 : BitVec 32 := 11#32
  let v180 : BitVec 32 := Scalar.xori v2 c11_i32_174
  let c1_i32_177 : BitVec 32 := 1#32
  let v183 : BitVec 32 := Scalar.muli v180 c1_i32_177
  let v184 : BitVec 32 := Scalar.addi c0_i32_178 v183
  v184.toNat
def k0_dev44 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_181 : BitVec 32 := 12#32
  let v187 : BitVec 32 := Scalar.xori v2 c12_i32_181
  let c1_i32_184 : BitVec 32 := 1#32
  let v190 : BitVec 32 := Scalar.muli v187 c1_i32_184
  let v191 : BitVec 32 := Scalar.addi c0_i32_185 v190
  v191.toNat
def k0_dev45 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_188 : BitVec 32 := 13#32
  let v194 : BitVec 32 := Scalar.xori v2 c13_i32_188
  let c1_i32_191 : BitVec 32 := 1#32
  let v197 : BitVec 32 := Scalar.muli v194 c1_i32_191
  let v198 : BitVec 32 := Scalar.addi c0_i32_192 v197
  v198.toNat
def k0_dev46 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_195 : BitVec 32 := 14#32
  let v201 : BitVec 32 := Scalar.xori v2 c14_i32_195
  let c1_i32_198 : BitVec 32 := 1#32
  let v204 : BitVec 32 := Scalar.muli v201 c1_i32_198
  let v205 : BitVec 32 := Scalar.addi c0_i32_199 v204
  v205.toNat
def k0_dev47 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_202 : BitVec 32 := 15#32
  let v208 : BitVec 32 := Scalar.xori v2 c15_i32_202
  let c1_i32_205 : BitVec 32 := 1#32
  let v211 : BitVec 32 := Scalar.muli v208 c1_i32_205
  let v212 : BitVec 32 := Scalar.addi c0_i32_206 v211
  v212.toNat
def k0_dev48 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_209 : BitVec 32 := 16#32
  let v215 : BitVec 32 := Scalar.xori v2 c16_i32_209
  let c1_i32_212 : BitVec 32 := 1#32
  let v218 : BitVec 32 := Scalar.muli v215 c1_i32_212
  let v219 : BitVec 32 := Scalar.addi c0_i32_213 v218
  v219.toNat
def k0_dev49 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_216 : BitVec 32 := 17#32
  let v222 : BitVec 32 := Scalar.xori v2 c17_i32_216
  let c1_i32_219 : BitVec 32 := 1#32
  let v225 : BitVec 32 := Scalar.muli v222 c1_i32_219
  let v226 : BitVec 32 := Scalar.addi c0_i32_220 v225
  v226.toNat
def k0_dev50 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_223 : BitVec 32 := 18#32
  let v229 : BitVec 32 := Scalar.xori v2 c18_i32_223
  let c1_i32_226 : BitVec 32 := 1#32
  let v232 : BitVec 32 := Scalar.muli v229 c1_i32_226
  let v233 : BitVec 32 := Scalar.addi c0_i32_227 v232
  v233.toNat
def k0_dev51 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_230 : BitVec 32 := 19#32
  let v236 : BitVec 32 := Scalar.xori v2 c19_i32_230
  let c1_i32_233 : BitVec 32 := 1#32
  let v239 : BitVec 32 := Scalar.muli v236 c1_i32_233
  let v240 : BitVec 32 := Scalar.addi c0_i32_234 v239
  v240.toNat
def k0_dev52 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_237 : BitVec 32 := 20#32
  let v243 : BitVec 32 := Scalar.xori v2 c20_i32_237
  let c1_i32_240 : BitVec 32 := 1#32
  let v246 : BitVec 32 := Scalar.muli v243 c1_i32_240
  let v247 : BitVec 32 := Scalar.addi c0_i32_241 v246
  v247.toNat
def k0_dev53 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_244 : BitVec 32 := 21#32
  let v250 : BitVec 32 := Scalar.xori v2 c21_i32_244
  let c1_i32_247 : BitVec 32 := 1#32
  let v253 : BitVec 32 := Scalar.muli v250 c1_i32_247
  let v254 : BitVec 32 := Scalar.addi c0_i32_248 v253
  v254.toNat
def k0_dev54 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_251 : BitVec 32 := 22#32
  let v257 : BitVec 32 := Scalar.xori v2 c22_i32_251
  let c1_i32_254 : BitVec 32 := 1#32
  let v260 : BitVec 32 := Scalar.muli v257 c1_i32_254
  let v261 : BitVec 32 := Scalar.addi c0_i32_255 v260
  v261.toNat
def k0_dev55 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_258 : BitVec 32 := 23#32
  let v264 : BitVec 32 := Scalar.xori v2 c23_i32_258
  let c1_i32_261 : BitVec 32 := 1#32
  let v267 : BitVec 32 := Scalar.muli v264 c1_i32_261
  let v268 : BitVec 32 := Scalar.addi c0_i32_262 v267
  v268.toNat
def k0_dev56 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_265 : BitVec 32 := 24#32
  let v271 : BitVec 32 := Scalar.xori v2 c24_i32_265
  let c1_i32_268 : BitVec 32 := 1#32
  let v274 : BitVec 32 := Scalar.muli v271 c1_i32_268
  let v275 : BitVec 32 := Scalar.addi c0_i32_269 v274
  v275.toNat
def k0_dev57 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_272 : BitVec 32 := 25#32
  let v278 : BitVec 32 := Scalar.xori v2 c25_i32_272
  let c1_i32_275 : BitVec 32 := 1#32
  let v281 : BitVec 32 := Scalar.muli v278 c1_i32_275
  let v282 : BitVec 32 := Scalar.addi c0_i32_276 v281
  v282.toNat
def k0_dev58 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_279 : BitVec 32 := 26#32
  let v285 : BitVec 32 := Scalar.xori v2 c26_i32_279
  let c1_i32_282 : BitVec 32 := 1#32
  let v288 : BitVec 32 := Scalar.muli v285 c1_i32_282
  let v289 : BitVec 32 := Scalar.addi c0_i32_283 v288
  v289.toNat
def k0_dev59 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_286 : BitVec 32 := 27#32
  let v292 : BitVec 32 := Scalar.xori v2 c27_i32_286
  let c1_i32_289 : BitVec 32 := 1#32
  let v295 : BitVec 32 := Scalar.muli v292 c1_i32_289
  let v296 : BitVec 32 := Scalar.addi c0_i32_290 v295
  v296.toNat
def k0_dev60 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_293 : BitVec 32 := 28#32
  let v299 : BitVec 32 := Scalar.xori v2 c28_i32_293
  let c1_i32_296 : BitVec 32 := 1#32
  let v302 : BitVec 32 := Scalar.muli v299 c1_i32_296
  let v303 : BitVec 32 := Scalar.addi c0_i32_297 v302
  v303.toNat
def k0_dev61 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_300 : BitVec 32 := 29#32
  let v306 : BitVec 32 := Scalar.xori v2 c29_i32_300
  let c1_i32_303 : BitVec 32 := 1#32
  let v309 : BitVec 32 := Scalar.muli v306 c1_i32_303
  let v310 : BitVec 32 := Scalar.addi c0_i32_304 v309
  v310.toNat
def k0_dev62 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_307 : BitVec 32 := 30#32
  let v313 : BitVec 32 := Scalar.xori v2 c30_i32_307
  let c1_i32_310 : BitVec 32 := 1#32
  let v316 : BitVec 32 := Scalar.muli v313 c1_i32_310
  let v317 : BitVec 32 := Scalar.addi c0_i32_311 v316
  v317.toNat
def k0_dev63 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_314 : BitVec 32 := 31#32
  let v320 : BitVec 32 := Scalar.xori v2 c31_i32_314
  let c1_i32_317 : BitVec 32 := 1#32
  let v323 : BitVec 32 := Scalar.muli v320 c1_i32_317
  let v324 : BitVec 32 := Scalar.addi c0_i32_318 v323
  v324.toNat
def k0_dev64 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_815 : BitVec 32 := 0#32
  let v1996 : BitVec 32 := Scalar.xori v2 c0_i32_815
  let c1_i32_818 : BitVec 32 := 1#32
  let v1999 : BitVec 32 := Scalar.muli v1996 c1_i32_818
  let v2000 : BitVec 32 := Scalar.addi c0_i32_819 v1999
  v2000.toNat
def k0_dev65 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_822 : BitVec 32 := 1#32
  let v2003 : BitVec 32 := Scalar.xori v2 c1_i32_822
  let c1_i32_825 : BitVec 32 := 1#32
  let v2006 : BitVec 32 := Scalar.muli v2003 c1_i32_825
  let v2007 : BitVec 32 := Scalar.addi c0_i32_826 v2006
  v2007.toNat
def k0_dev66 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_829 : BitVec 32 := 2#32
  let v2010 : BitVec 32 := Scalar.xori v2 c2_i32_829
  let c1_i32_832 : BitVec 32 := 1#32
  let v2013 : BitVec 32 := Scalar.muli v2010 c1_i32_832
  let v2014 : BitVec 32 := Scalar.addi c0_i32_833 v2013
  v2014.toNat
def k0_dev67 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_836 : BitVec 32 := 3#32
  let v2017 : BitVec 32 := Scalar.xori v2 c3_i32_836
  let c1_i32_839 : BitVec 32 := 1#32
  let v2020 : BitVec 32 := Scalar.muli v2017 c1_i32_839
  let v2021 : BitVec 32 := Scalar.addi c0_i32_840 v2020
  v2021.toNat
def k0_dev68 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_843 : BitVec 32 := 4#32
  let v2024 : BitVec 32 := Scalar.xori v2 c4_i32_843
  let c1_i32_846 : BitVec 32 := 1#32
  let v2027 : BitVec 32 := Scalar.muli v2024 c1_i32_846
  let v2028 : BitVec 32 := Scalar.addi c0_i32_847 v2027
  v2028.toNat
def k0_dev69 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_850 : BitVec 32 := 5#32
  let v2031 : BitVec 32 := Scalar.xori v2 c5_i32_850
  let c1_i32_853 : BitVec 32 := 1#32
  let v2034 : BitVec 32 := Scalar.muli v2031 c1_i32_853
  let v2035 : BitVec 32 := Scalar.addi c0_i32_854 v2034
  v2035.toNat
def k0_dev70 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_857 : BitVec 32 := 6#32
  let v2038 : BitVec 32 := Scalar.xori v2 c6_i32_857
  let c1_i32_860 : BitVec 32 := 1#32
  let v2041 : BitVec 32 := Scalar.muli v2038 c1_i32_860
  let v2042 : BitVec 32 := Scalar.addi c0_i32_861 v2041
  v2042.toNat
def k0_dev71 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_864 : BitVec 32 := 7#32
  let v2045 : BitVec 32 := Scalar.xori v2 c7_i32_864
  let c1_i32_867 : BitVec 32 := 1#32
  let v2048 : BitVec 32 := Scalar.muli v2045 c1_i32_867
  let v2049 : BitVec 32 := Scalar.addi c0_i32_868 v2048
  v2049.toNat
def k0_dev72 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_871 : BitVec 32 := 8#32
  let v2052 : BitVec 32 := Scalar.xori v2 c8_i32_871
  let c1_i32_874 : BitVec 32 := 1#32
  let v2055 : BitVec 32 := Scalar.muli v2052 c1_i32_874
  let v2056 : BitVec 32 := Scalar.addi c0_i32_875 v2055
  v2056.toNat
def k0_dev73 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_878 : BitVec 32 := 9#32
  let v2059 : BitVec 32 := Scalar.xori v2 c9_i32_878
  let c1_i32_881 : BitVec 32 := 1#32
  let v2062 : BitVec 32 := Scalar.muli v2059 c1_i32_881
  let v2063 : BitVec 32 := Scalar.addi c0_i32_882 v2062
  v2063.toNat
def k0_dev74 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_885 : BitVec 32 := 10#32
  let v2066 : BitVec 32 := Scalar.xori v2 c10_i32_885
  let c1_i32_888 : BitVec 32 := 1#32
  let v2069 : BitVec 32 := Scalar.muli v2066 c1_i32_888
  let v2070 : BitVec 32 := Scalar.addi c0_i32_889 v2069
  v2070.toNat
def k0_dev75 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_892 : BitVec 32 := 11#32
  let v2073 : BitVec 32 := Scalar.xori v2 c11_i32_892
  let c1_i32_895 : BitVec 32 := 1#32
  let v2076 : BitVec 32 := Scalar.muli v2073 c1_i32_895
  let v2077 : BitVec 32 := Scalar.addi c0_i32_896 v2076
  v2077.toNat
def k0_dev76 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_899 : BitVec 32 := 12#32
  let v2080 : BitVec 32 := Scalar.xori v2 c12_i32_899
  let c1_i32_902 : BitVec 32 := 1#32
  let v2083 : BitVec 32 := Scalar.muli v2080 c1_i32_902
  let v2084 : BitVec 32 := Scalar.addi c0_i32_903 v2083
  v2084.toNat
def k0_dev77 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_906 : BitVec 32 := 13#32
  let v2087 : BitVec 32 := Scalar.xori v2 c13_i32_906
  let c1_i32_909 : BitVec 32 := 1#32
  let v2090 : BitVec 32 := Scalar.muli v2087 c1_i32_909
  let v2091 : BitVec 32 := Scalar.addi c0_i32_910 v2090
  v2091.toNat
def k0_dev78 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_913 : BitVec 32 := 14#32
  let v2094 : BitVec 32 := Scalar.xori v2 c14_i32_913
  let c1_i32_916 : BitVec 32 := 1#32
  let v2097 : BitVec 32 := Scalar.muli v2094 c1_i32_916
  let v2098 : BitVec 32 := Scalar.addi c0_i32_917 v2097
  v2098.toNat
def k0_dev79 (d0 : Dev nD) : Nat :=
  let c0_i32_924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_920 : BitVec 32 := 15#32
  let v2101 : BitVec 32 := Scalar.xori v2 c15_i32_920
  let c1_i32_923 : BitVec 32 := 1#32
  let v2104 : BitVec 32 := Scalar.muli v2101 c1_i32_923
  let v2105 : BitVec 32 := Scalar.addi c0_i32_924 v2104
  v2105.toNat
def k0_dev80 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_927 : BitVec 32 := 16#32
  let v2108 : BitVec 32 := Scalar.xori v2 c16_i32_927
  let c1_i32_930 : BitVec 32 := 1#32
  let v2111 : BitVec 32 := Scalar.muli v2108 c1_i32_930
  let v2112 : BitVec 32 := Scalar.addi c0_i32_931 v2111
  v2112.toNat
def k0_dev81 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_934 : BitVec 32 := 17#32
  let v2115 : BitVec 32 := Scalar.xori v2 c17_i32_934
  let c1_i32_937 : BitVec 32 := 1#32
  let v2118 : BitVec 32 := Scalar.muli v2115 c1_i32_937
  let v2119 : BitVec 32 := Scalar.addi c0_i32_938 v2118
  v2119.toNat
def k0_dev82 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_941 : BitVec 32 := 18#32
  let v2122 : BitVec 32 := Scalar.xori v2 c18_i32_941
  let c1_i32_944 : BitVec 32 := 1#32
  let v2125 : BitVec 32 := Scalar.muli v2122 c1_i32_944
  let v2126 : BitVec 32 := Scalar.addi c0_i32_945 v2125
  v2126.toNat
def k0_dev83 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_948 : BitVec 32 := 19#32
  let v2129 : BitVec 32 := Scalar.xori v2 c19_i32_948
  let c1_i32_951 : BitVec 32 := 1#32
  let v2132 : BitVec 32 := Scalar.muli v2129 c1_i32_951
  let v2133 : BitVec 32 := Scalar.addi c0_i32_952 v2132
  v2133.toNat
def k0_dev84 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_955 : BitVec 32 := 20#32
  let v2136 : BitVec 32 := Scalar.xori v2 c20_i32_955
  let c1_i32_958 : BitVec 32 := 1#32
  let v2139 : BitVec 32 := Scalar.muli v2136 c1_i32_958
  let v2140 : BitVec 32 := Scalar.addi c0_i32_959 v2139
  v2140.toNat
def k0_dev85 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_962 : BitVec 32 := 21#32
  let v2143 : BitVec 32 := Scalar.xori v2 c21_i32_962
  let c1_i32_965 : BitVec 32 := 1#32
  let v2146 : BitVec 32 := Scalar.muli v2143 c1_i32_965
  let v2147 : BitVec 32 := Scalar.addi c0_i32_966 v2146
  v2147.toNat
def k0_dev86 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_969 : BitVec 32 := 22#32
  let v2150 : BitVec 32 := Scalar.xori v2 c22_i32_969
  let c1_i32_972 : BitVec 32 := 1#32
  let v2153 : BitVec 32 := Scalar.muli v2150 c1_i32_972
  let v2154 : BitVec 32 := Scalar.addi c0_i32_973 v2153
  v2154.toNat
def k0_dev87 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_976 : BitVec 32 := 23#32
  let v2157 : BitVec 32 := Scalar.xori v2 c23_i32_976
  let c1_i32_979 : BitVec 32 := 1#32
  let v2160 : BitVec 32 := Scalar.muli v2157 c1_i32_979
  let v2161 : BitVec 32 := Scalar.addi c0_i32_980 v2160
  v2161.toNat
def k0_dev88 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_983 : BitVec 32 := 24#32
  let v2164 : BitVec 32 := Scalar.xori v2 c24_i32_983
  let c1_i32_986 : BitVec 32 := 1#32
  let v2167 : BitVec 32 := Scalar.muli v2164 c1_i32_986
  let v2168 : BitVec 32 := Scalar.addi c0_i32_987 v2167
  v2168.toNat
def k0_dev89 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_990 : BitVec 32 := 25#32
  let v2171 : BitVec 32 := Scalar.xori v2 c25_i32_990
  let c1_i32_993 : BitVec 32 := 1#32
  let v2174 : BitVec 32 := Scalar.muli v2171 c1_i32_993
  let v2175 : BitVec 32 := Scalar.addi c0_i32_994 v2174
  v2175.toNat
def k0_dev90 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_997 : BitVec 32 := 26#32
  let v2178 : BitVec 32 := Scalar.xori v2 c26_i32_997
  let c1_i32_1000 : BitVec 32 := 1#32
  let v2181 : BitVec 32 := Scalar.muli v2178 c1_i32_1000
  let v2182 : BitVec 32 := Scalar.addi c0_i32_1001 v2181
  v2182.toNat
def k0_dev91 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1004 : BitVec 32 := 27#32
  let v2185 : BitVec 32 := Scalar.xori v2 c27_i32_1004
  let c1_i32_1007 : BitVec 32 := 1#32
  let v2188 : BitVec 32 := Scalar.muli v2185 c1_i32_1007
  let v2189 : BitVec 32 := Scalar.addi c0_i32_1008 v2188
  v2189.toNat
def k0_dev92 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1011 : BitVec 32 := 28#32
  let v2192 : BitVec 32 := Scalar.xori v2 c28_i32_1011
  let c1_i32_1014 : BitVec 32 := 1#32
  let v2195 : BitVec 32 := Scalar.muli v2192 c1_i32_1014
  let v2196 : BitVec 32 := Scalar.addi c0_i32_1015 v2195
  v2196.toNat
def k0_dev93 (d0 : Dev nD) : Nat :=
  let c0_i32_1022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1018 : BitVec 32 := 29#32
  let v2199 : BitVec 32 := Scalar.xori v2 c29_i32_1018
  let c1_i32_1021 : BitVec 32 := 1#32
  let v2202 : BitVec 32 := Scalar.muli v2199 c1_i32_1021
  let v2203 : BitVec 32 := Scalar.addi c0_i32_1022 v2202
  v2203.toNat
def k0_dev94 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1025 : BitVec 32 := 30#32
  let v2206 : BitVec 32 := Scalar.xori v2 c30_i32_1025
  let c1_i32_1028 : BitVec 32 := 1#32
  let v2209 : BitVec 32 := Scalar.muli v2206 c1_i32_1028
  let v2210 : BitVec 32 := Scalar.addi c0_i32_1029 v2209
  v2210.toNat
def k0_dev95 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1032 : BitVec 32 := 31#32
  let v2213 : BitVec 32 := Scalar.xori v2 c31_i32_1032
  let c1_i32_1035 : BitVec 32 := 1#32
  let v2216 : BitVec 32 := Scalar.muli v2213 c1_i32_1035
  let v2217 : BitVec 32 := Scalar.addi c0_i32_1036 v2216
  v2217.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x128 : Shape := ⟨2, ![8192, 128]⟩

abbrev nBuf : Space → Nat
  | .hbm => 2
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.SortKernelIdealProto.lean ====
/-
The exchange protocol of the distributed sort: which semaphore cells there are, who raises each of them, how much, and
what each arrival hands over; then one lemma per kind of step of the kernel body (signal, wait, remote copy), stated for
a device `c` that is a variable.

On device `c` there are five cells, each used for one round:

* the barrier cell, raised once by every OTHER device `p`, one unit each. The signal of `p` hands `c` the four rows of
  `p`'s exchange buffer and of `p`'s result buffer that `c` is going to write (rows `4c .. 4c+3`);
* per direction `b` (`false`: columns to rows, `true`: back) a receive cell, raised by the copy of every device `p`
  (its own included); the copy of `p` hands `c` the rows `4p .. 4p+3` of its landing buffer, holding the rows
  `4c .. 4c+3` of what `p` sends;
* per direction a send cell, raised by `c`'s own 32 copies; the copy to `q` hands back the rows `4q .. 4q+3` that it read.

What the devices send is a parameter here (`cont`), so that one proof serves every reading of the floats.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Memref

@[expose] public section

noncomputable section

namespace Cert.SortKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own rounds beside the exchange's, whose duties are named by the device that pays. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-- The `d`-th partner of device `c`: the device whose number is `c xor d`. -/
def px (c : Dev nD) (d : Fin 32) : Dev nD := ⟨c.val ^^^ d.val, Nat.xor_lt_two_pow (n := 5) c.isLt d.isLt⟩

/-- The devices whose turn among the 32 partners has not come before step `n`. -/
def rem (c : Dev nD) (n : ℕ) : Finset (Dev nD) := Finset.univ.filter fun q => n ≤ c.val ^^^ q.val

theorem xor_cancel (a b : ℕ) : a ^^^ (a ^^^ b) = b := by rw [← Nat.xor_assoc, Nat.xor_self, Nat.zero_xor]

theorem rem_not_mem (c : Dev nD) (d : Fin 32) : px c d ∉ rem c (d.val + 1) := by
  unfold rem px; rw [Finset.mem_filter]; simp only [xor_cancel]; omega

theorem rem_succ (c : Dev nD) (d : Fin 32) : rem c d.val = insert (px c d) (rem c (d.val + 1)) := by
  ext q
  unfold rem px
  rw [Finset.mem_insert, Finset.mem_filter, Finset.mem_filter]
  constructor
  · rintro ⟨-, h⟩
    rcases Nat.eq_or_lt_of_le h with h' | h'
    · exact Or.inl (Fin.ext (by show q.val = c.val ^^^ d.val; rw [h', xor_cancel]))
    · exact Or.inr ⟨Finset.mem_univ _, h'⟩
  · rintro (h | ⟨-, h⟩)
    · subst h; refine ⟨Finset.mem_univ _, ?_⟩; simp only [xor_cancel]; exact le_refl _
    · exact ⟨Finset.mem_univ _, by omega⟩

theorem rem_zero (c : Dev nD) : rem c 0 = Finset.univ := by
  unfold rem; exact Finset.filter_true_of_mem fun _ _ => Nat.zero_le _
theorem rem_end (c : Dev nD) : rem c 32 = ∅ := by
  unfold rem; refine Finset.filter_false_of_mem fun q _ => ?_
  have := Nat.xor_lt_two_pow (n := 5) c.isLt q.isLt; omega
theorem px_zero (c : Dev nD) : px c 0 = c := Fin.ext (Nat.xor_zero c.val)
theorem rem_one (c : Dev nD) : rem c 1 = Finset.univ.erase c := by
  have h := rem_succ c 0
  have h' := rem_not_mem c 0
  rw [px_zero] at h h'
  rw [show (0 : Fin 32).val = 0 from rfl, rem_zero, Nat.zero_add] at h
  rw [show (0 : Fin 32).val + 1 = 1 from rfl] at h'
  rw [h, Finset.erase_insert h']
theorem px_ne (c : Dev nD) (d : Fin 32) (hd : d ≠ 0) : px c d ≠ c := fun h => hd (Fin.ext (by
  have h1 : c.val ^^^ d.val = c.val := congrArg Fin.val h
  have h2 := xor_cancel c.val d.val
  rw [h1, Nat.xor_self] at h2; exact h2.symm))

/-- A partner's number and row offsets as the kernel computes them from its device number, in 32-bit words. -/
def devW (c : Dev nD) (w : BitVec 32) : ℕ :=
  (Scalar.addi 0#32 (Scalar.muli (Scalar.xori (Scalar.remsi (Scalar.divsi (Dev.word c) 1#32) 32#32) w) 1#32)).toNat
theorem devW_eq : ∀ (c : Dev nD) (d : Fin 32), devW c (BitVec.ofNat 32 d.val) = (px c d).val := by decide +kernel
theorem off2_eq0 : ∀ (c : Dev nD) (d : Fin 32) (a : Fin 2),
    k0_off2 c (BitVec.ofNat 32 d.val) a = (![4 * (px c d).val, 0] : Fin 2 → ℕ) a := by decide +kernel
theorem off2_eq (c : Dev nD) (d : Fin 32) : k0_off2 c (BitVec.ofNat 32 d.val) = ![4 * (px c d).val, 0] :=
  funext (off2_eq0 c d)

/-! ## Memrefs, slabs, cells -/

abbrev xM : Memref sig .tc .vmem S256x128 .f32 := Memref.whole cc0_stg0_0
abbrev oM : Memref sig .tc .vmem S256x128 .f32 := Memref.whole cc0_stg1_0
abbrev tM : Memref sig .tc .vmem S128x256 .f32 := Memref.whole cc0_scratch0
abbrev wM : Memref sig .tc .vmem S128x256 .f32 := Memref.whole cc0_scratch1
abbrev zM : Memref sig .tc .vmem S128x256 .f32 := Memref.whole cc0_scratch2

/-- What direction `b` reads from and lands in. -/
abbrev inM : Bool → Memref sig .tc .vmem S128x256 .f32 | false => tM | true => wM
abbrev outM : Bool → Memref sig .tc .vmem S128x256 .f32 | false => wM | true => zM

theorem slab_inb (q : Dev nD) : ∀ a, (![4 * q.val, 0] : Fin 2 → ℕ) a + S4x256.size a ≤ S128x256.size a := by
  revert q; decide

/-- Four rows `4q .. 4q+3`, all lanes. -/
abbrev slabR (q : Dev nD) : Rect S128x256 := Rect.unit (s := S128x256) ![4 * q.val, 0] S4x256.size (slab_inb q)
abbrev slab (M : Memref sig .tc .vmem S128x256 .f32) (q : Dev nD) : Memref sig .tc .vmem S4x256 .f32 :=
  M.slice (slabR q) (fun _ => rfl)
/-- The rows `4q .. 4q+3` of `X`. -/
def rowsOf (X : Vec F S128x256 .f32) (q : Dev nD) : S4x256.Idx → Elt F .f32 := fun j => X ((slabR q).emb j)

abbrev barS : Sem sig := (SemArray.scalar (sig.barrier 0 rfl) : Sems sig S_).sem
abbrev sndS : Bool → DmaSem sig | false => (cc0_scratch3 : DmaSems sig S_).sem | true => (cc0_scratch5 : DmaSems sig S_).sem
abbrev rcvS : Bool → DmaSem sig | false => (cc0_scratch4 : DmaSems sig S_).sem | true => (cc0_scratch6 : DmaSems sig S_).sem

abbrev barCell (c : Dev nD) : GSem nD τ sig := ((c : Thread nD τ), .reg barS)
abbrev sndCell (b : Bool) (c : Dev nD) : GSem nD τ sig := ((c : Thread nD τ), .dma (sndS b))
abbrev rcvCell (b : Bool) (c : Dev nD) : GSem nD τ sig := ((c : Thread nD τ), .dma (rcvS b))

/-- The five cells of a device, the barrier first; the last four are the kernel's own. -/
abbrev csem : Fin 5 → SemLoc sig :=
  fun | 0 => .reg barS | 1 => .dma (sndS false) | 2 => .dma (rcvS false) | 3 => .dma (sndS true) | 4 => .dma (rcvS true)
abbrev kcell (ck : Dev nD × Fin 5) : GSem nD τ sig := ((ck.1 : Thread nD τ), csem ck.2)

/-- The credit of one four-row copy. -/
def N : ℕ := (slab wM 0).view.dmaCredit
theorem N_pos : 0 < N := View.dmaCredit_pos _ (by decide)
theorem slab_credit (b : Bool) (q : Dev nD) : (slab (outM b) q).view.dmaCredit = N := by cases b <;> rfl
attribute [irreducible] N

theorem csem_injective : Function.Injective csem := by decide
theorem snd_ne_bar (b : Bool) : (SemLoc.dma (sndS b) : SemLoc sig) ≠ .reg barS := fun h => by cases h
theorem rcv_ne_bar (b : Bool) : (SemLoc.dma (rcvS b) : SemLoc sig) ≠ .reg barS := fun h => by cases h
theorem snd_ne_rcv (b b' : Bool) : (SemLoc.dma (sndS b) : SemLoc sig) ≠ .dma (rcvS b') := by revert b b'; decide
theorem rcv_ne_snd (b b' : Bool) : (SemLoc.dma (rcvS b) : SemLoc sig) ≠ .dma (sndS b') := by revert b b'; decide
theorem rcv_tf : (SemLoc.dma (rcvS true) : SemLoc sig) ≠ .dma (rcvS false) := by decide
theorem rcv_ft : (SemLoc.dma (rcvS false) : SemLoc sig) ≠ .dma (rcvS true) := by decide
theorem snd_tf : (SemLoc.dma (sndS true) : SemLoc sig) ≠ .dma (sndS false) := by decide

/-! ## The schedule -/

/-- Some contents of the rows `4s .. 4s+3` of `M` on device `o`. -/
def someSlab (M : Memref sig .tc .vmem S128x256 .f32) (o s : Dev nD) : sProp 𝕄 :=
  iprop(∃ X, owns (o : Thread nD τ) (slab M s) fullShare X)
/-- The rows of `o`'s two landing buffers that device `s` writes. -/
def lendP (o s : Dev nD) : sProp 𝕄 := iprop(someSlab wM o s ∗ someSlab zM o s)

variable (cont : Bool → Dev nD → Vec F S128x256 .f32)

def sndPay (b : Bool) (c q : Dev nD) : sProp 𝕄 := owns (c : Thread nD τ) (slab (inM b) q) fullShare (rowsOf (cont b c) q)
def rcvPay (b : Bool) (c p : Dev nD) : sProp 𝕄 := owns (c : Thread nD τ) (slab (outM b) p) fullShare (rowsOf (cont b p) c)

instance lendP_storable (o s : Dev nD) : BI.Storable (upEmb : UEmb _ 𝕄) (lendP (F := F) o s) := by
  unfold lendP someSlab; infer_instance
instance sndPay_storable (b : Bool) (c q : Dev nD) : BI.Storable (upEmb : UEmb _ 𝕄) (sndPay (F := F) cont b c q) := by
  unfold sndPay; infer_instance
instance rcvPay_storable (b : Bool) (c q : Dev nD) : BI.Storable (upEmb : UEmb _ 𝕄) (rcvPay (F := F) cont b c q) := by
  unfold rcvPay; infer_instance

abbrev IsBar (g : GSem nD τ sig) : Prop := g.1.2 = .tc ∧ g.2 = .reg barS
abbrev IsCopy (g : GSem nD τ sig) : Prop :=
  g.1.2 = .tc ∧ (g.2 = .dma (sndS false) ∨ g.2 = .dma (rcvS false) ∨ g.2 = .dma (sndS true) ∨ g.2 = .dma (rcvS true))

def payloadOf (g : GSem nD τ sig) (p : Dev nD) : sProp 𝕄 :=
  if g.2 = .reg barS then lendP p g.1.1
  else if g.2 = .dma (sndS false) then sndPay cont false g.1.1 p
  else if g.2 = .dma (rcvS false) then rcvPay cont false g.1.1 p
  else if g.2 = .dma (sndS true) then sndPay cont true g.1.1 p
  else if g.2 = .dma (rcvS true) then rcvPay cont true g.1.1 p
  else iprop(emp)

instance payloadOf_storable (g : GSem nD τ sig) (p : Dev nD) : BI.Storable (upEmb : UEmb _ 𝕄) (payloadOf (F := F) cont g p) := by
  unfold payloadOf; (repeat' split) <;> infer_instance

def sched : Rounds.Schedule (GSem nD τ sig) (Dev nD) 𝕄 where
  duties g r := if r = 0 ∧ IsBar g then Finset.univ.erase g.1.1 else if r = 0 ∧ IsCopy g then Finset.univ else ∅
  unitless _ := False
  amount g _ _ := if g.2 = .reg barS then 1 else N
  payload g _ p := payloadOf cont g p
  amount_pos g _ _ _ := by
    by_cases h : g.2 = .reg barS
    · rw [if_pos h]; exact Nat.one_pos
    · rw [if_neg h]; exact N_pos

instance sched_payload_storable (g : GSem nD τ sig) (r : ℕ) (d : Dev nD) :
    BI.Storable (upEmb : UEmb _ 𝕄) ((sched (F := F) cont).payload g r d) := payloadOf_storable cont g d

section Sched
variable (c : Dev nD)

theorem csem_copy (j : Fin 5) (hj : j ≠ 0) : csem j ≠ .reg barS := by revert j; decide
theorem isCopy_csem (j : Fin 5) (hj : j ≠ 0) : IsCopy (kcell (c, j)) := ⟨rfl, (by decide : ∀ j : Fin 5, j ≠ 0 → csem j = .dma (sndS false) ∨ csem j = .dma (rcvS false) ∨ csem j = .dma (sndS true) ∨ csem j = .dma (rcvS true)) j hj⟩

omit [FloatOps F] in
theorem duties_bar : (sched (F := F) cont).duties (barCell c) 0 = Finset.univ.erase c := by dsimp only [sched]; exact if_pos ⟨rfl, rfl, rfl⟩
omit [FloatOps F] in
theorem duties_copy (j : Fin 5) (hj : j ≠ 0) : (sched (F := F) cont).duties (kcell (c, j)) 0 = Finset.univ := by
  dsimp only [sched]; rw [if_neg (fun h => csem_copy j hj h.2.2), if_pos ⟨rfl, isCopy_csem c j hj⟩]
omit [FloatOps F] in
theorem duties_later (g : GSem nD τ sig) : ∀ r, 1 ≤ r → (sched (F := F) cont).duties g r = ∅ :=
  fun r hr => by dsimp only [sched]; rw [if_neg (fun h => by omega), if_neg (fun h => by omega)]
omit [FloatOps F] in
theorem amount_bar (p : Dev nD) : (sched (F := F) cont).amount (barCell c) 0 p = 1 := by dsimp only [sched]; exact if_pos rfl
omit [FloatOps F] in
theorem amount_copy (j : Fin 5) (hj : j ≠ 0) (p : Dev nD) : (sched (F := F) cont).amount (kcell (c, j)) 0 p = N := by
  dsimp only [sched]; exact if_neg (csem_copy j hj)
omit [FloatOps F] in
theorem expect_bar : (sched (F := F) cont).expect (barCell c) 0 = 31 := by
  unfold Schedule.expect Schedule.amountOf
  rw [duties_bar, Finset.sum_congr rfl fun p _ => amount_bar cont c p, Finset.sum_const, Finset.card_erase_of_mem (Finset.mem_univ _)]
  rfl
omit [FloatOps F] in
theorem expect_copy (j : Fin 5) (hj : j ≠ 0) : (sched (F := F) cont).expect (kcell (c, j)) 0 = 32 * N := by
  unfold Schedule.expect Schedule.amountOf
  rw [duties_copy cont c j hj, Finset.sum_congr rfl fun p _ => amount_copy cont c j hj p, Finset.sum_const]
  rfl

omit [FloatOps F] in
theorem payload_bar (p : Dev nD) : (sched (F := F) cont).payload (barCell c) 0 p = lendP p c := by
  dsimp only [sched]; unfold payloadOf; exact if_pos rfl
omit [FloatOps F] in
theorem payload_snd (b : Bool) (q : Dev nD) : (sched (F := F) cont).payload (sndCell b c) 0 q = sndPay cont b c q := by
  dsimp only [sched]; unfold payloadOf
  cases b
  · rw [if_neg (snd_ne_bar _), if_pos rfl]
  · rw [if_neg (snd_ne_bar _), if_neg snd_tf, if_neg (snd_ne_rcv _ _), if_pos rfl]
omit [FloatOps F] in
theorem payload_rcv (b : Bool) (p : Dev nD) : (sched (F := F) cont).payload (rcvCell b c) 0 p = rcvPay cont b c p := by
  dsimp only [sched]; unfold payloadOf
  cases b
  · rw [if_neg (rcv_ne_bar _), if_neg (rcv_ne_snd _ _), if_pos rfl]
  · rw [if_neg (rcv_ne_bar _), if_neg (rcv_ne_snd _ _), if_neg rcv_tf, if_neg (rcv_ne_snd _ _), if_pos rfl]

omit [FloatOps F] in
theorem duties_snd (b : Bool) : (sched (F := F) cont).duties (sndCell b c) 0 = Finset.univ := by
  cases b
  · exact duties_copy cont c 1 (by decide)
  · exact duties_copy cont c 3 (by decide)
omit [FloatOps F] in
theorem duties_rcv (b : Bool) : (sched (F := F) cont).duties (rcvCell b c) 0 = Finset.univ := by
  cases b
  · exact duties_copy cont c 2 (by decide)
  · exact duties_copy cont c 4 (by decide)
omit [FloatOps F] in
theorem amount_snd (b : Bool) (p : Dev nD) : (sched (F := F) cont).amount (sndCell b c) 0 p = N := by
  dsimp only [sched]; exact if_neg (snd_ne_bar b)
omit [FloatOps F] in
theorem amount_rcv (b : Bool) (p : Dev nD) : (sched (F := F) cont).amount (rcvCell b c) 0 p = N := by
  dsimp only [sched]; exact if_neg (rcv_ne_bar b)

end Sched

/-! ## What is owed, and the levels -/

/-- One unit on the barrier cell of each device of `S`. -/
def OB (S : Finset (Dev nD)) : CellTallies nD τ sig Unit := ∑ q ∈ S, tallyAt (barCell q) () 1
/-- One copy's credit on the receive cell, in direction `b`, of each device of `S`. -/
def OR (b : Bool) (S : Finset (Dev nD)) : CellTallies nD τ sig Unit := ∑ q ∈ S, tallyAt (rcvCell b q) () N

/-- What is still owed once direction `b` has been sent. -/
def after : Bool → CellTallies nD τ sig Unit
  | false => OR true Finset.univ
  | true => 0

/-- At launch device `c` owes every other barrier one unit and every receive cell, in both directions, one copy. -/
def O₀ (c : Dev nD) : CellTallies nD τ sig Unit := OB (Finset.univ.erase c) + (OR false Finset.univ + OR true Finset.univ)

theorem OB_insert {q : Dev nD} {S : Finset (Dev nD)} (h : q ∉ S) : OB (insert q S) = OB S + tallyAt (barCell q) () 1 := by
  unfold OB; rw [Finset.sum_insert h, add_comm]
theorem OR_insert (b : Bool) {q : Dev nD} {S : Finset (Dev nD)} (h : q ∉ S) : OR b (insert q S) = OR b S + tallyAt (rcvCell b q) () N := by
  unfold OR; rw [Finset.sum_insert h, add_comm]
theorem OB_empty : OB ∅ = 0 := rfl
theorem OR_empty (b : Bool) : OR b ∅ = 0 := rfl

theorem sum_tally_pos {S : Finset (Dev nD)} {f : Dev nD → GSem nD τ sig} {k : ℕ} {g : GSem nD τ sig} {u : Unit}
    (h : 0 < (∑ q ∈ S, (tallyAt (f q) () k : CellTallies nD τ sig Unit)) g u) : ∃ q, g = f q := by
  rw [Finset.sum_apply, Finsupp.finset_sum_apply] at h
  obtain ⟨q, -, hq⟩ := Finset.exists_ne_zero_of_sum_ne_zero (Nat.pos_iff_ne_zero.mp h)
  rw [tallyAt_apply] at hq
  by_contra hn
  exact hq (if_neg fun h' => hn ⟨q, h'.1⟩)
theorem OB_pos {S : Finset (Dev nD)} {g : GSem nD τ sig} {u : Unit} (h : 0 < OB S g u) : ∃ q, g = barCell q := sum_tally_pos h
theorem OR_pos {b : Bool} {S : Finset (Dev nD)} {g : GSem nD τ sig} {u : Unit} (h : 0 < OR b S g u) : ∃ q, g = rcvCell b q := sum_tally_pos h

theorem add_pos_or {A B : CellTallies nD τ sig Unit} {g : GSem nD τ sig} {u : Unit} (h : 0 < (A + B) g u) : 0 < A g u ∨ 0 < B g u := by
  rw [Pi.add_apply, Finsupp.add_apply] at h; omega

def L (g : GSem nD τ sig) : Finset Unit := if g.1.2 = .tc then {()} else ∅
def lv (g : GSem nD τ sig) (_ : Unit) : ℕ :=
  if g.2 = .reg barS then 1 else if g.2 = .dma (rcvS false) then 2 else if g.2 = .dma (rcvS true) then 3 else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_rcv (b : Bool) (c : Dev nD) : lv (rcvCell b c) () = if b then 3 else 2 := by
  unfold lv; cases b
  · rw [if_neg (rcv_ne_bar _), if_pos rfl]; rfl
  · rw [if_neg (rcv_ne_bar _), if_neg rcv_tf, if_pos rfl]; rfl

omit [FloatOps F] in
/-- A wait on a cell of level `n` while everything owed is of a higher level. -/
theorem mayWait_of (c : Dev nD) (sm : SemLoc sig) (O : CellTallies nD τ sig Unit) (n : ℕ) (hn : lv ((c : Thread nD τ), sm) () ≤ n)
    (hO : ∀ g u, 0 < O g u → (∃ q, g = barCell q ∧ n < 1) ∨ ∃ b q, g = rcvCell b q ∧ n < if b then 3 else 2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rcases hO g u hg with ⟨q, rfl, -⟩ | ⟨b, q, rfl, -⟩ <;> exact Finset.mem_singleton_self _)
    (fun p hp => by rw [Finset.mem_singleton.mp hp]; exact hn)
    (fun g u hg => by
      cases u
      rcases hO g () hg with ⟨q, rfl, h⟩ | ⟨b, q, rfl, h⟩
      · rw [lv_bar]; exact h
      · rw [lv_rcv]; exact h)

omit [FloatOps F] in
/-- The staging cells are waited on at the launch's debts or at none. -/
theorem mayWait_stage (c : Dev nD) (q : DmaSem sig) (hq : SemLoc.dma q ≠ .dma (rcvS false)) (hq' : SemLoc.dma q ≠ .dma (rcvS true))
    (O : CellTallies nD τ sig Unit) (hO : O = O₀ c ∨ O = 0) :
    (levAts L lv : sProp 𝕄) ⊢ MayWait (c : Thread nD τ) (.dma q) () O := by
  rcases hO with rfl | rfl
  · refine mayWait_of c _ _ 0 (by unfold lv; rw [if_neg (fun h => by cases h), if_neg hq, if_neg hq']) fun g u hg => ?_
    rcases add_pos_or hg with h | h
    · obtain ⟨q, rfl⟩ := OB_pos h; exact Or.inl ⟨q, rfl, Nat.one_pos⟩
    · rcases add_pos_or h with h | h <;> obtain ⟨q, rfl⟩ := OR_pos h
      · exact Or.inr ⟨false, q, rfl, Nat.two_pos⟩
      · exact Or.inr ⟨true, q, rfl, Nat.succ_pos _⟩
  · rw [MayWait_zero]; iintro -; iempintro

omit [FloatOps F] in
theorem mayWait_bar (c : Dev nD) : (levAts L lv : sProp 𝕄) ⊢ MayWait (c : Thread nD τ) (.reg barS) () (OR false Finset.univ + OR true Finset.univ) :=
  mayWait_of c _ _ 1 (le_of_eq (lv_bar c)) fun g u hg => by
    rcases add_pos_or hg with h | h <;> obtain ⟨q, rfl⟩ := OR_pos h
    · exact Or.inr ⟨false, q, rfl, by decide⟩
    · exact Or.inr ⟨true, q, rfl, by decide⟩

omit [FloatOps F] in
theorem mayWait_rcv (c : Dev nD) : (levAts L lv : sProp 𝕄) ⊢ MayWait (c : Thread nD τ) (.dma (rcvS false)) () (OR true Finset.univ) :=
  mayWait_of c _ _ 2 (le_of_eq (lv_rcv false c)) fun g u hg => by
    obtain ⟨q, rfl⟩ := OR_pos hg; exact Or.inr ⟨true, q, rfl, by decide⟩

omit [FloatOps F] in
theorem mayWait_none (c : Dev nD) (sm : SemLoc sig) : (levAts L lv : sProp 𝕄) ⊢ MayWait (c : Thread nD τ) sm () 0 := by
  rw [MayWait_zero]; iintro -; iempintro

/-! ## The steps -/

section Steps

variable (K : Dev nD × Fin 5 → ℕ)

def records : sProp 𝕄 :=
  iprop((bigSep Finset.univ fun ck : Dev nD × Fin 5 => cellInv ER (sched cont) (K ck) (kcell ck))
    ∗ bigSep Finset.univ fun ck : Dev nD × Fin 5 => reached ER (kcell ck) 0)
instance records_persistent : BI.Persistent (records (F := F) cont K) := by unfold records; infer_instance

/-- What every step may use and none uses up. -/
def env : sProp 𝕄 := iprop(records cont K ∗ (levAts L lv : sProp 𝕄))
instance env_persistent : BI.Persistent (env (F := F) cont K) := by unfold env; infer_instance

omit [FloatOps F] in
theorem inv_at (ck : Dev nD × Fin 5) :
    (bigSep Finset.univ fun ck : Dev nD × Fin 5 => (cellInv ER (sched cont) (K ck) (kcell ck) : sProp 𝕄)) ⊢ cellInv ER (sched cont) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

omit [FloatOps F] in
theorem env_inv (ck : Dev nD × Fin 5) : env (F := F) cont K ⊢ cellInv ER (sched cont) (K ck) (kcell ck) := by
  unfold env records
  iintro ⟨⟨H, -⟩, -⟩
  iapply (inv_at cont K ck); iexact H
omit [FloatOps F] in
theorem env_reached (ck : Dev nD × Fin 5) : env (F := F) cont K ⊢ reached ER (kcell ck) 0 := by
  unfold env records
  iintro ⟨⟨-, H⟩, -⟩
  iapply (reached_at (F := F) ck); iexact H
omit [FloatOps F] in
theorem env_of_lev {P : sProp 𝕄} (h : (levAts L lv : sProp 𝕄) ⊢ P) : env (F := F) cont K ⊢ P := by
  unfold env
  iintro ⟨-, H⟩
  iapply h; iexact H

abbrev 𝒱₀ : Variants := Variants.none

/-- Device `c` owes `O`, whatever it has waited for. -/
def owesE (c : Dev nD) (O : CellTallies nD τ sig Unit) : sProp 𝕄 := iprop(∃ W, owes (c : Thread nD τ) O W)

/-- Before signal `n`: the debts left, and for each partner left the token of the signal and what it hands over. -/
def sigSt (c : Dev nD) (n : ℕ) : sProp 𝕄 :=
  iprop(owesE c (OB (rem c n) + (OR false Finset.univ + OR true Finset.univ))
    ∗ bigSep (rem c n) fun q => iprop(dutyTok ER (barCell q) 0 c ∗ lendP c q))

/-- Before copy `n` of direction `b`: the debts left; per partner left the two tokens, the rows to send and the rows of
    the partner that they go to; the credit of the copies already fired. -/
def sndSt (b : Bool) (c : Dev nD) (n : ℕ) : sProp 𝕄 :=
  iprop(owesE c (OR b (rem c n) + after b)
    ∗ (bigSep (rem c n) fun q => iprop((dutyTok ER (sndCell b c) 0 q ∗ dutyTok ER (rcvCell b q) 0 c)
        ∗ sndPay cont b c q ∗ someSlab (outM b) q c))
    ∗ cred (tallyAt (sndCell b c) () (n * N)))

/-- After `n` of the 32 waits on cell `j` of device `c`, owing `O`. -/
def waitSt (j : Fin 5) (c : Dev nD) (O : CellTallies nD τ sig Unit) (n : ℕ) : sProp 𝕄 :=
  iprop(owesE c O ∗ cred (tallyAt (kcell (c, j)) () ((32 - n) * N))
    ∗ ∃ S, atPos ER (kcell (c, j)) 0 S (n * N) ∗ bigSep S fun d => (sched cont).payload (kcell (c, j)) 0 d)

/-- After the last of them: everything has been handed over and the counter is at zero. -/
def doneSt (j : Fin 5) (c : Dev nD) (O : CellTallies nD τ sig Unit) : sProp 𝕄 :=
  iprop(owesE c O ∗ semVal (kcell (c, j)) 0 ∗ bigSep Finset.univ fun d => (sched cont).payload (kcell (c, j)) 0 d)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem bigSep_rem (c : Dev nD) (d : Fin 32) (Φ : Dev nD → sProp 𝕄) :
    bigSep (rem c d.val) Φ = iprop(Φ (px c d) ∗ bigSep (rem c (d.val + 1)) Φ) := by
  rw [rem_succ]; exact bigSep_insert (rem_not_mem c d)

/-- A signal to the `d`-th partner. -/
theorem step_signal {α : Type} {Q : α → sProp 𝕄} {k : PUnit → Prog (TpuEff nD τ sig (Elt F) Λ₀ .tc) α}
    (c : Dev nD) (d : Fin 32) (hd : d ≠ 0) {n : Dev nD} (hn : n.val = devW c (BitVec.ofNat 32 d.val)) {k' : ℕ} (hk : 1 = k')
    (R : sProp 𝕄) (h : iprop(env cont K ∗ sigSt c (d.val + 1) ∗ R) ⊢ wpc c (k ⟨⟩) Q) :
    iprop(env cont K ∗ sigSt c d.val ∗ R) ⊢ wpc c (.op (.semSignal (Dev.tc n : Thread nD τ) barS k') k) Q := by
  have hn' : n = px c d := Fin.ext (hn.trans (devW_eq c d))
  subst hn' hk
  unfold sigSt owesE
  rw [bigSep_rem c d]
  iintro ⟨#He, ⟨⟨%W, HO⟩, ⟨Ht, Hl⟩, HB⟩, HR⟩
  iapply (Rounds.wp_signal 𝒱₀ ER (sched cont) (c : Thread nD τ) none (dst := (px c d : Thread nD τ)) (κ := K (px c d, 0)) (r := 0) (d := c)
      (by rw [duties_bar]; exact Finset.mem_erase.mpr ⟨(px_ne c d hd).symm, Finset.mem_univ _⟩) (amount_bar cont (px c d) c) ()
      (O₀ := OB (rem c d.val) + (OR false Finset.univ + OR true Finset.univ))
      (OB (rem c (d.val + 1)) + (OR false Finset.univ + OR true Finset.univ))
      (by rw [rem_succ, OB_insert (rem_not_mem c d)]; exact add_right_comm _ _ _)) $$ [HO Ht Hl]
  · isplitr; · iapply (env_inv cont K (px c d, 0)); iexact He
    isplitl [HO]; · iexact HO
    isplitl [Ht]; · iexact Ht
    isplitl [Hl]; · rw [payload_bar]; iexact Hl
    iapply (env_reached cont K (px c d, 0)); iexact He
  iintro HO
  iapply h
  isplitr; · iexact He
  isplitr [HR]
  · unfold sigSt owesE
    isplitl [HO]; · iexists W; iexact HO
    iexact HB
  iexact HR

omit [FloatOps F] in
theorem bigSep_one (c : Dev nD) (Φ : Dev nD → sProp 𝕄) :
    bigSep Finset.univ Φ = iprop(Φ c ∗ bigSep (Finset.univ.erase c) Φ) := bigSep_erase (Finset.mem_univ c)

/-- The wait for the 31 signals: every partner's rows that `c` will write come with it. -/
theorem step_barwait {α : Type} {Q : α → sProp 𝕄} {k : PUnit → Prog (TpuEff nD τ sig (Elt F) Λ₀ .tc) α}
    (c : Dev nD) {k' : ℕ} (hk : 31 = k') (R : sProp 𝕄)
    (h : iprop(env cont K ∗ (owesE c (OR false Finset.univ + OR true Finset.univ) ∗ semVal (barCell c) 0
        ∗ bigSep Finset.univ fun q => lendP q c) ∗ R) ⊢ wpc c (k ⟨⟩) Q) :
    iprop(env cont K ∗ (sigSt c 32 ∗ lendP c c ∗ atPos ER (barCell c) 0 ∅ 0 ∗ cred (tallyAt (barCell c) () 31)) ∗ R)
      ⊢ wpc c (.op (.semWait barS k') k) Q := by
  subst hk
  unfold sigSt owesE
  rw [rem_end, OB_empty, zero_add, bigSep_empty]
  iintro ⟨#He, ⟨⟨⟨%W, HO⟩, -⟩, Hl, Hat, Hc⟩, HR⟩
  have hm : env (F := F) cont K ⊢ MayWait (c : Thread nD τ) (.reg barS) () (OR false Finset.univ + OR true Finset.univ) := env_of_lev cont K (mayWait_bar c)
  ihave #HM := hm $$ He
  iapply (Rounds.wp_wait_rest_token 𝒱₀ ER (sched cont) (c : Thread nD τ) none (κ := K (c, 0))
      (wpE_semWait_eq 𝒱₀ (c : Thread nD τ) none Set.univ) (Set.mem_univ _) () (O := OR false Finset.univ + OR true Finset.univ) (W := W) (R := 0) (m := 0) (T := ∅)
      (by rw [expect_bar])) $$ [HO Hat Hc]
  · isplitr; · iapply (env_inv cont K (c, 0)); iexact He
    isplitl [Hc]; · iexact Hc
    isplitl [HO]; · iexact HO
    isplitr; · iexact HM
    iexact Hat
  iintro ⟨HO, Hat, -, Hp⟩
  ihave Hp' := (Entails.of_eq (show bigSep ((sched (F := F) cont).duties (barCell c) 0 \ ∅) (fun d => (sched cont).payload (barCell c) 0 d)
      = bigSep (Finset.univ.erase c) (fun q => lendP q c) by
        rw [Finset.sdiff_empty, duties_bar]; exact bigSep_congr fun p _ => payload_bar cont c p)) $$ Hp
  imod (Rounds.cell_close ER (sched cont) (Set.mem_univ (K (c, 0))) (fun h => h) (R := 0 + 1) (duties_later cont (barCell c))) $$ [Hat] with Hz
  · isplitr; · iapply (env_inv cont K (c, 0)); iexact He
    iexact Hat
  iapply h
  isplitr; · iexact He
  isplitr [HR]
  · unfold owesE
    isplitl [HO]; · iexists _; iexact HO
    isplitl [Hz]; · iexact Hz
    rw [bigSep_one c]
    isplitl [Hl]; · iexact Hl
    iexact Hp'
  iexact HR

/-- The send and receive cells of direction `b`, among the five. -/
abbrev sndJ : Bool → Fin 5 | false => 1 | true => 3
abbrev rcvJ : Bool → Fin 5 | false => 2 | true => 4
theorem sndJ_ne (b : Bool) : sndJ b ≠ 0 := by revert b; decide
theorem rcvJ_ne (b : Bool) : rcvJ b ≠ 0 := by revert b; decide
omit [FloatOps F] in
theorem env_snd (b : Bool) (c : Dev nD) : env (F := F) cont K ⊢ iprop(cellInv ER (sched cont) (K (c, sndJ b)) (sndCell b c) ∗ reached ER (sndCell b c) 0) := by
  have h := env_inv cont K (c, sndJ b)
  have h' := env_reached cont K (c, sndJ b)
  iintro #He
  isplit
  · cases b <;> (iapply h; iexact He)
  · cases b <;> (iapply h'; iexact He)
omit [FloatOps F] in
theorem env_rcv (b : Bool) (c : Dev nD) : env (F := F) cont K ⊢ iprop(cellInv ER (sched cont) (K (c, rcvJ b)) (rcvCell b c) ∗ reached ER (rcvCell b c) 0) := by
  have h := env_inv cont K (c, rcvJ b)
  have h' := env_reached cont K (c, rcvJ b)
  iintro #He
  isplit
  · cases b <;> (iapply h; iexact He)
  · cases b <;> (iapply h'; iexact He)

omit [FloatOps F] in
theorem pay_snd (b : Bool) (c q : Dev nD) (fs : (slab (inM b) q).view.ty.Contents (Elt F))
    (hfs : View.read (Elt F) (slab (inM b) q).view fs = rowsOf (cont b c) q) :
    ((slab (inM b) q).view.loc (c : Thread nD τ) ↦[(slab (inM b) q).view.set]{fullShare} fs : sProp 𝕄)
      ⊢ (sched (F := F) cont).payload (sndCell b c) 0 q := by
  rw [payload_snd]; unfold sndPay owns
  iintro H; iexists fs
  isplitr
  · ipureintro; exact hfs
  iexact H
omit [FloatOps F] in
theorem pay_rcv (b : Bool) (c p : Dev nD) (fs : (slab (inM b) c).view.ty.Contents (Elt F))
    (hfs : View.read (Elt F) (slab (inM b) c).view fs = rowsOf (cont b p) c) (fd : (slab (outM b) p).view.ty.Contents (Elt F)) :
    ((slab (outM b) p).view.loc (c : Thread nD τ) ↦[(slab (outM b) p).view.set]{fullShare}
        (slab (outM b) p).view.write (Elt F) fd (View.read (Elt F) (slab (inM b) c).view fs) Finset.univ : sProp 𝕄)
      ⊢ (sched (F := F) cont).payload (rcvCell b c) 0 p := by
  rw [payload_rcv]; unfold rcvPay owns
  iintro H; iexists ((slab (outM b) p).view.write (Elt F) fd (View.read (Elt F) (slab (inM b) c).view fs) Finset.univ)
  isplitr
  · ipureintro; exact (View.read_write_univ _ _).trans hfs
  iexact H

omit [FloatOps F] in
theorem bigSep_grow {S T : Finset (Dev nD)} (h : S ⊆ T) (Φ : Dev nD → sProp 𝕄) :
    bigSep T Φ = iprop(bigSep S Φ ∗ bigSep (T \ S) Φ) := bigSep_sdiff_split h
theorem cred_succ (g : GSem nD τ sig) (n : ℕ) :
    (cred (tallyAt g () ((n + 1) * N)) : sProp 𝕄) ⊣⊢ iprop(cred (tallyAt g () (n * N)) ∗ cred (tallyAt g () N)) := by
  rw [Nat.succ_mul, ← tallyAt_add]; exact cred_add _ _

/-- The copy of direction `b` to the `d`-th partner `q`: rows `4q ..` of this device's source into rows `4c ..` of `q`'s
    landing buffer. -/
theorem step_send {α : Type} {Q : α → sProp 𝕄} {k : PUnit → Prog (TpuEff nD τ sig (Elt F) Λ₀ .tc) α}
    (b : Bool) (c : Dev nD) (d : Fin 32) {n : Dev nD} (hn : n.val = devW c (BitVec.ofNat 32 d.val))
    {o₁ o₂ : Fin 2 → ℕ} (ho₁ : o₁ = k0_off1 c) (ho₂ : o₂ = k0_off2 c (BitVec.ofNat 32 d.val))
    {i₁ : ∀ a, o₁ a + S4x256.size a ≤ S128x256.size a} {i₂ : ∀ a, o₂ a + S4x256.size a ≤ S128x256.size a}
    {hsc : ((outM b).slice (Rect.unit (s := S128x256) o₁ S4x256.size i₁) (fun _ => rfl)).view.ref.isScScratch = false}
    {hsrc : ((inM b).slice (Rect.unit (s := S128x256) o₂ S4x256.size i₂) (fun _ => rfl)).view.WordExact}
    {hdst : ((outM b).slice (Rect.unit (s := S128x256) o₁ S4x256.size i₁) (fun _ => rfl)).view.WordExact}
    {hsem : DmaTarget.Typed .vmem (.dma (rcvS b)) (.remote (Dev.tc n : Thread nD τ) ((outM b).slice (Rect.unit (s := S128x256) o₁ S4x256.size i₁) (fun _ => rfl)) (.dma (sndS b)) hsc)}
    (R : sProp 𝕄) (h : iprop(env cont K ∗ sndSt cont b c (d.val + 1) ∗ R) ⊢ wpc c (k ⟨⟩) Q) :
    iprop(env cont K ∗ sndSt cont b c d.val ∗ R)
      ⊢ wpc c (.op (.enqueueDma ((inM b).slice (Rect.unit (s := S128x256) o₂ S4x256.size i₂) (fun _ => rfl))
          (.remote (Dev.tc n : Thread nD τ) ((outM b).slice (Rect.unit (s := S128x256) o₁ S4x256.size i₁) (fun _ => rfl)) (.dma (sndS b)) hsc)
          (.dma (rcvS b)) hsrc hdst hsem) k) Q := by
  have hn' : n = px c d := Fin.ext (hn.trans (devW_eq c d))
  have ho₁' : o₁ = ![4 * c.val, 0] := ho₁.trans (k0_off1_eq c)
  have ho₂' : o₂ = ![4 * (px c d).val, 0] := ho₂.trans (off2_eq c d)
  subst hn' ho₁' ho₂'
  clear hn ho₁ ho₂
  unfold sndSt owesE
  rw [bigSep_rem c d]
  unfold sndPay someSlab owns
  iintro ⟨#He, ⟨⟨%W, HO⟩, ⟨⟨⟨Hts, Htr⟩, ⟨%fs, %hfs, Hs⟩, ⟨%X, %fd, %hfd, Hd⟩⟩, HB⟩, Hc⟩, HR⟩
  ihave ⟨#Is, #Rs⟩ := (env_snd cont K b c) $$ He
  ihave ⟨#Ir, #Rr⟩ := (env_rcv cont K b (px c d)) $$ He
  have hO : OR b (rem c d.val) + after b = OR b (rem c (d.val + 1)) + after b + tallyAt (rcvCell b (px c d)) () N := by
    rw [rem_succ, OR_insert b (rem_not_mem c d)]; exact add_right_comm _ _ _
  have hd₁ : px c d ∈ (sched (F := F) cont).duties (sndCell b c) 0 := by rw [duties_snd]; exact Finset.mem_univ _
  have hd₂ : c ∈ (sched (F := F) cont).duties (rcvCell b (px c d)) 0 := by rw [duties_rcv]; exact Finset.mem_univ _
  iapply (Rounds.wp_send_pointsTo 𝒱₀ ER (sched cont) (c : Thread nD τ) none (c' := (px c d : Thread nD τ))
      (src := slab (inM b) (px c d)) (dst := slab (outM b) c) (sem := .dma (rcvS b)) (sS := .dma (sndS b))
      (κ₁ := K (c, sndJ b)) (κ₂ := K (px c d, rcvJ b))
      (r₁ := 0) (r₂ := 0) (d₁ := px c d) (d₂ := c) (fs := fs) (fd := fd) hd₁ hd₂
      () () N (slab_credit b c) (amount_snd cont c b (px c d)) (amount_rcv cont (px c d) b c)
      (O₀ := OR b (rem c d.val) + after b)
      (OR b (rem c (d.val + 1)) + after b) hO (W := W)
      (pay_snd cont b c (px c d) fs hfs) (pay_rcv cont b (px c d) c fs hfs fd)) $$ [HO Hts Htr Hs Hd]
  · isplitr; · iexact Is
    isplitr; · iexact Ir
    isplitl [Hs]; · iexact Hs
    isplitl [Hd]; · iexact Hd
    isplitl [HO]; · iexact HO
    isplitl [Hts]; · iexact Hts
    isplitr; · iexact Rs
    isplitl [Htr]; · iexact Htr
    iexact Rr
  iintro ⟨Hc', HO⟩
  iapply h
  isplitr; · iexact He
  isplitr [HR]
  · unfold sndSt owesE sndPay someSlab owns
    isplitl [HO]; · iexists W; iexact HO
    isplitl [HB]; · iexact HB
    iapply (cred_succ (F := F) (sndCell b c) d.val).2
    isplitl [Hc]; · iexact Hc
    iexact Hc'
  iexact HR

/-- One of the first 31 waits on cell `j`. -/
theorem step_wait {α : Type} {Q : α → sProp 𝕄} {k : PUnit → Prog (TpuEff nD τ sig (Elt F) Λ₀ .tc) α}
    (j : Fin 5) (hj : j ≠ 0) (c : Dev nD) (O : CellTallies nD τ sig Unit) (hO : (levAts L lv : sProp 𝕄) ⊢ MayWait (c : Thread nD τ) (csem j) () O)
    (n : ℕ) (hn : n < 32) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem j) N K)
    (R : sProp 𝕄) (h : iprop(env cont K ∗ waitSt cont j c O (n + 1) ∗ R) ⊢ wpc c (k ⟨⟩) Q) :
    iprop(env cont K ∗ waitSt cont j c O n ∗ R) ⊢ wpc c (.op w k) Q := by
  have e : 32 - n = (32 - (n + 1)) + 1 := by omega
  unfold waitSt owesE
  rw [e]
  iintro ⟨#He, ⟨⟨%W, HO⟩, Hc, ⟨%S, Hat, Hp⟩⟩, HR⟩
  ihave ⟨Hc, Hc'⟩ := (cred_succ (F := F) (kcell (c, j)) (32 - (n + 1))).1 $$ Hc
  have hm : env (F := F) cont K ⊢ MayWait (c : Thread nD τ) (csem j) () O := env_of_lev cont K hO
  ihave #HM := hm $$ He
  iapply (Rounds.wp_wait 𝒱₀ ER (sched cont) (c : Thread nD τ) none (κ := K (c, j)) (sm := csem j) hw (Set.mem_univ _)
      {(csem j, ())} (cr := Finsupp.single () N) (O := O) (W := W) (R := 0) (m := n * N) (T := S)
      (Util.total_single () N) (image_single_subset (csem j) () N)) $$ [HO Hat Hc']
  · isplitr; · iapply (env_inv cont K (c, j)); iexact He
    isplitl [Hc']; · iexact Hc'
    isplitl [HO]; · iexact HO
    isplitr; · iexact HM
    iexact Hat
  iintro %S' ⟨%hS, HO, Hat, Hp'⟩
  iapply h
  isplitr; · iexact He
  isplitr [HR]
  · unfold waitSt owesE
    isplitl [HO]; · iexists _; iexact HO
    isplitl [Hc]; · iexact Hc
    iexists S'
    isplitl [Hat]; · rw [Nat.succ_mul]; iexact Hat
    rw [bigSep_grow hS.1]
    isplitl [Hp]; · iexact Hp
    iexact Hp'
  iexact HR

/-- The last of the 32 waits on cell `j`. -/
theorem step_wait_last {α : Type} {Q : α → sProp 𝕄} {k : PUnit → Prog (TpuEff nD τ sig (Elt F) Λ₀ .tc) α}
    (j : Fin 5) (hj : j ≠ 0) (c : Dev nD) (O : CellTallies nD τ sig Unit) (hO : (levAts L lv : sProp 𝕄) ⊢ MayWait (c : Thread nD τ) (csem j) () O)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem j) N K)
    (R : sProp 𝕄) (h : iprop(env cont K ∗ doneSt cont j c O ∗ R) ⊢ wpc c (k ⟨⟩) Q) :
    iprop(env cont K ∗ waitSt cont j c O 31 ∗ R) ⊢ wpc c (.op w k) Q := by
  have e : (32 - 31) * N = N := Nat.one_mul N
  have hx : 31 * N + N = (sched (F := F) cont).expect (kcell (c, j)) 0 := by rw [expect_copy cont c j hj]; exact (Nat.succ_mul 31 N).symm
  unfold waitSt owesE
  rw [e]
  iintro ⟨#He, ⟨⟨%W, HO⟩, Hc, ⟨%S, Hat, Hp⟩⟩, HR⟩
  have hm : env (F := F) cont K ⊢ MayWait (c : Thread nD τ) (csem j) () O := env_of_lev cont K hO
  ihave #HM := hm $$ He
  iapply (Rounds.wp_wait_rest_token 𝒱₀ ER (sched cont) (c : Thread nD τ) none (κ := K (c, j)) (sm := csem j) hw (Set.mem_univ _)
      () (O := O) (W := W) (R := 0) (m := 31 * N) (T := S) hx) $$ [HO Hat Hc]
  · isplitr; · iapply (env_inv cont K (c, j)); iexact He
    isplitl [Hc]; · iexact Hc
    isplitl [HO]; · iexact HO
    isplitr; · iexact HM
    iexact Hat
  iintro ⟨HO, Hat, -, Hp'⟩
  rw [duties_copy cont c j hj]
  imod (Rounds.cell_close ER (sched cont) (Set.mem_univ (K (c, j))) (fun h => h) (R := 0 + 1) (duties_later cont (kcell (c, j)))) $$ [Hat] with Hz
  · isplitr; · iapply (env_inv cont K (c, j)); iexact He
    iexact Hat
  iapply h
  isplitr; · iexact He
  isplitr [HR]
  · unfold doneSt owesE
    isplitl [HO]; · iexists _; iexact HO
    isplitl [Hz]; · iexact Hz
    rw [bigSep_grow (Finset.subset_univ S)]
    isplitl [Hp]; · iexact Hp
    iexact Hp'
  iexact HR

end Steps

end Cert.SortKernelIdeal

end
-- ==== Proof.SortKernelIdealMem.lean ====
/-
The buffers of the kernel body: a buffer of 128 rows as its 32 slabs of four rows, the exchange of slabs between the devices as a
function of what every device holds, and the steps of the body that load, store or wait, in the form the walk over the body uses.
-/
module

public import proofs.«01_k».proof.Proof.SortKernelIdealProto
public import Idealize.ShloMosaic.Lib.Pointwise.Index

@[expose] public section

noncomputable section

namespace Cert.SortKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The exchange as a function -/

/-- What every device holds once slab `q` of device `p`'s buffer has become slab `p` of device `q`'s, for all `p` and `q`. -/
def swp (f : Dev nD → Vec F S128x256 .f32) (c : Dev nD) : Vec F S128x256 .f32 := fun i =>
  f ⟨(i 0).val / 4, Nat.div_lt_of_lt_mul (i 0).isLt⟩ (ix2 (n0 := 128) (n1 := 256) ⟨4 * c.val + (i 0).val % 4, by
    have := c.isLt; have : c.val < 32 := c.isLt; omega⟩ (i 1))

omit [FloatOps F] in
theorem swp_rows (f : Dev nD → Vec F S128x256 .f32) (c p : Dev nD) : rowsOf (swp f c) p = rowsOf (f p) c := by
  funext j
  have hj : (j 0).val < 4 := (j 0).isLt
  unfold rowsOf swp
  have h0 : (((slabR p).emb j) 0).val = 4 * p.val + (j 0).val := by
    rw [Rect.emb_apply]; show 4 * p.val + 1 * (j 0).val = _; omega
  have h1 : (((slabR p).emb j) 1).val = (j 1).val := by
    rw [Rect.emb_apply]; show 0 + 1 * (j 1).val = _; omega
  have e : (⟨(((slabR p).emb j) 0).val / 4, Nat.div_lt_of_lt_mul (((slabR p).emb j) 0).isLt⟩ : Dev nD) = p := Fin.ext (by show _ / 4 = p.val; omega)
  rw [e]
  congr 1
  funext a
  refine Fin.ext ?_
  match a with
  | ⟨0, _⟩ => show 4 * c.val + (((slabR p).emb j) 0).val % 4 = 4 * c.val + 1 * (j 0).val; omega
  | ⟨1, _⟩ => show (((slabR p).emb j) 1).val = 0 + 1 * (j 1).val; omega

/-! ## A buffer and its slabs -/

theorem slabs_disjoint (q q' : Dev nD) (h : q ≠ q') : Disjoint (slabR q).set (slabR q').set := by
  have h' : q.val ≠ q'.val := fun e => h (Fin.ext e)
  refine Rect.unit_disjoint 0 ?_
  show 4 * q.val + 4 ≤ 4 * q'.val ∨ 4 * q'.val + 4 ≤ 4 * q.val
  omega

theorem slabs_cover : (Finset.univ.biUnion fun q : Dev nD => (slabR q).set) = Finset.univ := by
  refine Finset.eq_univ_iff_forall.mpr fun i => Finset.mem_biUnion.mpr ?_
  have h0 : (i 0).val < 128 := (i 0).isLt
  have h1 : (i 1).val < 256 := (i 1).isLt
  refine ⟨⟨(i 0).val / 4, Nat.div_lt_of_lt_mul (i 0).isLt⟩, Finset.mem_univ _, Rect.mem_set_unit.mpr fun a => ?_⟩
  match a with
  | ⟨0, _⟩ => show 4 * ((i 0).val / 4) ≤ (i 0).val ∧ (i 0).val < 4 * ((i 0).val / 4) + 4; omega
  | ⟨1, _⟩ => show 0 ≤ (i 1).val ∧ (i 1).val < 0 + 256; omega

omit [FloatOps F] in
theorem split (c : Dev nD) (M : Memref sig .tc .vmem S128x256 .f32) (X : Vec F S128x256 .f32) :
    (owns (c : Thread nD τ) M fullShare X : sProp 𝕄)
      ⊢ bigSep Finset.univ fun q => owns (c : Thread nD τ) (slab M q) fullShare (rowsOf X q) :=
  owns_rects (c : Thread nD τ) M fullShare slabR (fun _ _ => rfl) slabs_disjoint slabs_cover X

theorem gather (c : Dev nD) (M : Memref sig .tc .vmem S128x256 .f32) (X : Vec F S128x256 .f32) :
    (bigSep Finset.univ fun q => owns (c : Thread nD τ) (slab M q) fullShare (rowsOf X q))
      ⊢ (owns (c : Thread nD τ) M fullShare X : sProp 𝕄) :=
  owns_of_rects (c : Thread nD τ) M fullShare slabR (fun _ _ => rfl) slabs_disjoint slabs_cover X

omit [FloatOps F] in
theorem split_some (c : Dev nD) (M : Memref sig .tc .vmem S128x256 .f32) (X : Vec F S128x256 .f32) :
    (owns (c : Thread nD τ) M fullShare X : sProp 𝕄) ⊢ bigSep Finset.univ fun q => someSlab M c q :=
  have h (q : Dev nD) : (owns (c : Thread nD τ) (slab M q) fullShare (rowsOf X q) : sProp 𝕄) ⊢ someSlab M c q := by
    unfold someSlab; iintro H; iexists rowsOf X q; iexact H
  (split c M X).trans (bigSep_mono fun q _ => h q)

omit [FloatOps F] in
/-- The two landing buffers, cut up among the devices that will write them. -/
theorem lend_all (c : Dev nD) :
    (iprop((∃ X, owns (c : Thread nD τ) wM fullShare X) ∗ (∃ X, owns (c : Thread nD τ) zM fullShare X)) : sProp 𝕄)
      ⊢ iprop(lendP c c ∗ bigSep (Finset.univ.erase c) fun q => lendP c q) := by
  have e : (bigSep Finset.univ fun q => (lendP c q : sProp 𝕄)) = iprop(lendP c c ∗ bigSep (Finset.univ.erase c) fun q => lendP c q) :=
    bigSep_one c _
  rw [← e]
  unfold lendP
  rw [bigSep_sep']
  iintro ⟨⟨%X, Hw⟩, ⟨%Y, Hz⟩⟩
  isplitl [Hw]
  · iapply (split_some c wM X); iexact Hw
  · iapply (split_some c zM Y); iexact Hz

variable (cont : Bool → Dev nD → Vec F S128x256 .f32)

omit [FloatOps F] in
/-- A buffer about to be sent in direction `b`, slab by slab. -/
theorem split_snd (b : Bool) (c : Dev nD) :
    (owns (c : Thread nD τ) (inM b) fullShare (cont b c) : sProp 𝕄) ⊢ bigSep Finset.univ fun q => sndPay cont b c q :=
  split c (inM b) (cont b c)

/-- The sent buffer, back from its slabs. -/
theorem gather_snd (b : Bool) (c : Dev nD) :
    (bigSep Finset.univ fun q => (sched cont).payload (sndCell b c) 0 q) ⊢ (owns (c : Thread nD τ) (inM b) fullShare (cont b c) : sProp 𝕄) := by
  rw [bigSep_congr fun q _ => payload_snd cont c b q]
  exact gather c (inM b) (cont b c)

/-- The landing buffer, put together from what the devices sent. -/
theorem gather_rcv (b : Bool) (c : Dev nD) :
    (bigSep Finset.univ fun p => (sched cont).payload (rcvCell b c) 0 p)
      ⊢ (owns (c : Thread nD τ) (outM b) fullShare (swp (cont b) c) : sProp 𝕄) := by
  rw [bigSep_congr fun p _ => (payload_rcv cont c b p).trans
    (show rcvPay cont b c p = owns (c : Thread nD τ) (slab (outM b) p) fullShare (rowsOf (swp (cont b) c) p) by
      unfold rcvPay; rw [swp_rows])]
  exact gather c (outM b) (swp (cont b) c)

/-! ## Steps -/

section Steps

variable (K : Dev nD × Fin 5 → ℕ)

/-- A stretch of the body, and what follows it. -/
theorem seq {α β : Type} (c : Dev nD) {p : Prog (TpuEff nD τ sig (Elt F) Λ₀ .tc) α} {f : α → Prog (TpuEff nD τ sig (Elt F) Λ₀ .tc) β}
    {Q : β → sProp 𝕄} {P : sProp 𝕄} (P' : sProp 𝕄)
    (h : ∀ Q' : α → sProp 𝕄, (∀ r, P' ⊢ Q' r) → P ⊢ wpc c p Q') (h' : ∀ r, P' ⊢ wpc c (f r) Q) : P ⊢ wpc c (p >>= f) Q := by
  rw [show wpc c (p >>= f) Q = wpc c p (fun r => wpc c (f r) Q) from wp_bind _ _ _ _ _ _]
  exact h _ h'

/-- The same with the stretch's result in view. -/
theorem seqv {α β : Type} (c : Dev nD) {p : Prog (TpuEff nD τ sig (Elt F) Λ₀ .tc) α} {f : α → Prog (TpuEff nD τ sig (Elt F) Λ₀ .tc) β}
    {Q : β → sProp 𝕄} {P : sProp 𝕄} (P' : α → Prop) (P'' : sProp 𝕄)
    (h : ∀ Q' : α → sProp 𝕄, (∀ r, P' r → P'' ⊢ Q' r) → P ⊢ wpc c p Q') (h' : ∀ r, P' r → P'' ⊢ wpc c (f r) Q) : P ⊢ wpc c (p >>= f) Q := by
  rw [show wpc c (p >>= f) Q = wpc c p (fun r => wpc c (f r) Q) from wp_bind _ _ _ _ _ _]
  exact h _ h'

theorem done {α : Type} (c : Dev nD) {r : α} {Q : α → sProp 𝕄} {P : sProp 𝕄} (h : P ⊢ Q r) :
    P ⊢ wpc c (.ret r : Prog (TpuEff nD τ sig (Elt F) Λ₀ .tc) α) Q := by
  rw [show wpc c (.ret r : Prog (TpuEff nD τ sig (Elt F) Λ₀ .tc) α) Q = iprop(|={Set.univ}[frame]=> Q r) from wp_ret _ _ _ _ _]
  exact h.trans (fupd_intro (PROP := sProp 𝕄))

/-- A load of a whole memref. -/
theorem step_load {α : Type} {Q : α → sProp 𝕄} (c : Dev nD) {s : Shape} {e : EltTy} (M : Memref sig .tc .vmem s e) (X : s.Idx → Elt F e)
    {off : Fin s.rank → ℕ} (hz : off = fun _ => 0) {inb : ∀ a, off a + s.size a ≤ s.size a}
    {hl : M.view.LoadsAt (Rect.unit off s.size inb).toLoadRect}
    {k : ((Rect.unit off s.size inb).toLoadRect.shape.Idx → Elt F e) → Prog (TpuEff nD τ sig (Elt F) Λ₀ .tc) α}
    {P : sProp 𝕄} (R : sProp 𝕄) (hP : P ⊢ iprop(owns (c : Thread nD τ) M fullShare X ∗ R))
    (h : iprop(owns (c : Thread nD τ) M fullShare X ∗ R) ⊢ wpc c (k X) Q) :
    P ⊢ wpc c (.op (.load M (Rect.unit off s.size inb).toLoadRect hl) k) Q := by
  refine hP.trans ?_
  iintro ⟨H, HR⟩
  ihave H := (show (owns (c : Thread nD τ) M fullShare X : sProp 𝕄)
      ⊢ iprop(∃ f, ⌜M.view.read (Elt F) f = X⌝ ∗ M.view.loc (c : Thread nD τ) ↦[M.view.set]{fullShare} f) from .rfl) $$ H
  icases H with ⟨%f, %hf, H⟩
  have e : M.view.readAt (Elt F) (Rect.unit off s.size inb).toLoadRect f = X := by
    subst hz
    rw [← hf]
    funext x
    refine congrArg (M.view.read (Elt F) f) (funext fun a => Fin.ext ?_)
    show 0 + 1 * (x a).val = (x a).val
    omega
  iapply (wp_load 𝒱₀ (c : Thread nD τ) none Set.univ (m := M) (View.setOn_subset_set _ _)) $$ H
  iintro H
  rw [e]
  iapply h
  isplitl [H]
  · iapply (show iprop(∃ f, ⌜M.view.read (Elt F) f = X⌝ ∗ M.view.loc (c : Thread nD τ) ↦[M.view.set]{fullShare} f)
      ⊢ (owns (c : Thread nD τ) M fullShare X : sProp 𝕄) from .rfl)
    iexists f
    isplitr
    · ipureintro; exact hf
    iexact H
  iexact HR

/-- A store over a whole memref. -/
theorem step_store {α : Type} {Q : α → sProp 𝕄} (c : Dev nD) {s : Shape} {e : EltTy} (M : Memref sig .tc .vmem s e) (X w : s.Idx → Elt F e)
    {off : Fin s.rank → ℕ} (hz : off = fun _ => 0) {inb : ∀ a, off a + s.size a ≤ s.size a}
    {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α}
    {P : sProp 𝕄} (R : sProp 𝕄) (hP : P ⊢ iprop(owns (c : Thread nD τ) M fullShare X ∗ R))
    (h : iprop(owns (c : Thread nD τ) M fullShare w ∗ R) ⊢ wpc c (k ⟨⟩) Q) :
    P ⊢ wpc c (.op (.store M (Rect.unit off s.size inb) w Finset.univ hx hm) k) Q := by
  refine hP.trans ?_
  iintro ⟨H, HR⟩
  ihave H := (show (owns (c : Thread nD τ) M fullShare X : sProp 𝕄)
      ⊢ iprop(∃ f, ⌜M.view.read (Elt F) f = X⌝ ∗ (M.access (Rect.unit off s.size inb)).loc (c : Thread nD τ) ↦[M.view.set]{fullShare} f) from .rfl) $$ H
  icases H with ⟨%f, -, H⟩
  have e : M.view.read (Elt F) ((M.access (Rect.unit off s.size inb)).write (Elt F) f w Finset.univ) = w := by
    have h' := View.read_write_univ (v := M.access (Rect.unit off s.size inb)) (Val := Elt F) f w
    subst hz
    funext x
    refine Eq.trans ?_ (congrFun h' x)
    refine congrArg (M.view.read (Elt F) _) (funext fun a => Fin.ext ?_)
    show (x a).val = 0 + 1 * (x a).val
    omega
  iapply (wp_store 𝒱₀ (c : Thread nD τ) none Set.univ (m := M) (r := Rect.unit off s.size inb) (Mk := Finset.univ)
    (View.set_slice_subset (v := M.view) _)) $$ H
  iintro H
  iapply h
  isplitl [H]
  · iapply (show iprop(∃ f, ⌜M.view.read (Elt F) f = w⌝ ∗ (M.access (Rect.unit off s.size inb)).loc (c : Thread nD τ) ↦[M.view.set]{fullShare} f)
      ⊢ (owns (c : Thread nD τ) M fullShare w : sProp 𝕄) from .rfl)
    iexists _
    isplitr
    · ipureintro; exact e
    iexact H
  iexact HR

/-- The signals, the copies and the waits once more, counted by a number rather than a numeral's value. -/
theorem signal_at {α : Type} {Q : α → sProp 𝕄} {k : PUnit → Prog (TpuEff nD τ sig (Elt F) Λ₀ .tc) α}
    (c : Dev nD) (d : ℕ) (hd : d < 32) (hd' : 0 < d) {n : Dev nD} (hn : n.val = devW c (BitVec.ofNat 32 d)) {z : ℤ} (hz : ((1 : ℕ) : ℤ) = z)
    (R : sProp 𝕄) (h : iprop(env cont K ∗ sigSt c (d + 1) ∗ R) ⊢ wpc c (k ⟨⟩) Q) :
    iprop(env cont K ∗ sigSt c d ∗ R) ⊢ wpc c (.op (.semSignal (Dev.tc n : Thread nD τ) barS z) k) Q := by
  subst hz
  exact step_signal cont K c ⟨d, hd⟩ (fun e => by rw [show d = 0 from congrArg Fin.val e] at hd'; exact absurd hd' (lt_irrefl 0)) hn rfl R h

theorem barwait_at {α : Type} {Q : α → sProp 𝕄} {k : PUnit → Prog (TpuEff nD τ sig (Elt F) Λ₀ .tc) α}
    (c : Dev nD) {z : ℤ} (hz : ((31 : ℕ) : ℤ) = z) (R : sProp 𝕄)
    (h : iprop(env cont K ∗ (owesE c (OR false Finset.univ + OR true Finset.univ) ∗ semVal (barCell c) 0
        ∗ bigSep Finset.univ fun q => lendP q c) ∗ R) ⊢ wpc c (k ⟨⟩) Q) :
    iprop(env cont K ∗ (sigSt c 32 ∗ lendP c c ∗ atPos ER (barCell c) 0 ∅ 0 ∗ cred (tallyAt (barCell c) () 31)) ∗ R)
      ⊢ wpc c (.op (.semWait barS z) k) Q := by
  subst hz
  exact step_barwait cont K c rfl R h

theorem send_at {α : Type} {Q : α → sProp 𝕄} {k : PUnit → Prog (TpuEff nD τ sig (Elt F) Λ₀ .tc) α}
    (b : Bool) (c : Dev nD) (d : ℕ) (hd : d < 32) {n : Dev nD} (hn : n.val = devW c (BitVec.ofNat 32 d))
    {o₁ o₂ : Fin 2 → ℕ} (ho₁ : o₁ = k0_off1 c) (ho₂ : o₂ = k0_off2 c (BitVec.ofNat 32 d))
    {i₁ : ∀ a, o₁ a + S4x256.size a ≤ S128x256.size a} {i₂ : ∀ a, o₂ a + S4x256.size a ≤ S128x256.size a}
    {hsc : ((outM b).slice (Rect.unit (s := S128x256) o₁ S4x256.size i₁) (fun _ => rfl)).view.ref.isScScratch = false}
    {hsrc : ((inM b).slice (Rect.unit (s := S128x256) o₂ S4x256.size i₂) (fun _ => rfl)).view.WordExact}
    {hdst : ((outM b).slice (Rect.unit (s := S128x256) o₁ S4x256.size i₁) (fun _ => rfl)).view.WordExact}
    {hsem : DmaTarget.Typed .vmem (.dma (rcvS b)) (.remote (Dev.tc n : Thread nD τ) ((outM b).slice (Rect.unit (s := S128x256) o₁ S4x256.size i₁) (fun _ => rfl)) (.dma (sndS b)) hsc)}
    (R : sProp 𝕄) (h : iprop(env cont K ∗ sndSt cont b c (d + 1) ∗ R) ⊢ wpc c (k ⟨⟩) Q) :
    iprop(env cont K ∗ sndSt cont b c d ∗ R)
      ⊢ wpc c (.op (.enqueueDma ((inM b).slice (Rect.unit (s := S128x256) o₂ S4x256.size i₂) (fun _ => rfl))
          (.remote (Dev.tc n : Thread nD τ) ((outM b).slice (Rect.unit (s := S128x256) o₁ S4x256.size i₁) (fun _ => rfl)) (.dma (sndS b)) hsc)
          (.dma (rcvS b)) hsrc hdst hsem) k) Q :=
  step_send cont K b c ⟨d, hd⟩ hn ho₁ ho₂ R h

/-- The two slices that every wait on a copy's cell names. -/
abbrev slab0 (M : Memref sig .tc .vmem S128x256 .f32) : Memref sig .tc .vmem S4x256 .f32 :=
  M.slice (Rect.unit (s := S128x256) ![0, 0] S4x256.size inb_S128x256_S4x256_0_0) (fun _ => rfl)
theorem wait_spec (c : Dev nD) (j : Fin 5) (s : DmaSem sig) (hs : csem j = .dma s)
    {hsrc hdst : (slab0 tM).view.WordExact} (Q : PUnit → sProp 𝕄) :
    wpE (defs₀ (F := F)) 𝒱₀ (c : Thread nD τ) none Set.univ (.waitDma2 s (slab0 tM) (slab0 tM) hsrc hdst) Q
      = waitSpec (c : Thread nD τ) Set.univ (csem j) N Q := by
  rw [wpE_waitDma2_eq, hs, show (slab0 tM).view.dmaCredit = N by unfold N; rfl]

theorem wait_at {α : Type} {Q : α → sProp 𝕄} {k : PUnit → Prog (TpuEff nD τ sig (Elt F) Λ₀ .tc) α}
    (j : Fin 5) (hj : j ≠ 0) (c : Dev nD) {O : CellTallies nD τ sig Unit} (hO : (levAts L lv : sProp 𝕄) ⊢ MayWait (c : Thread nD τ) (csem j) () O)
    (n : ℕ) (hn : n < 32) {s : DmaSem sig} (hs : csem j = .dma s) {hsrc hdst : (slab0 tM).view.WordExact}
    (R : sProp 𝕄) (h : iprop(env cont K ∗ waitSt cont j c O (n + 1) ∗ R) ⊢ wpc c (k ⟨⟩) Q) :
    iprop(env cont K ∗ waitSt cont j c O n ∗ R) ⊢ wpc c (.op (.waitDma2 s (slab0 tM) (slab0 tM) hsrc hdst) k) Q :=
  step_wait cont K j hj c O hO n hn (wait_spec c j s hs) R h

theorem wait_end {α : Type} {Q : α → sProp 𝕄} {k : PUnit → Prog (TpuEff nD τ sig (Elt F) Λ₀ .tc) α}
    (j : Fin 5) (hj : j ≠ 0) (c : Dev nD) {O : CellTallies nD τ sig Unit} (hO : (levAts L lv : sProp 𝕄) ⊢ MayWait (c : Thread nD τ) (csem j) () O)
    {s : DmaSem sig} (hs : csem j = .dma s) {hsrc hdst : (slab0 tM).view.WordExact}
    (R : sProp 𝕄) (h : iprop(env cont K ∗ doneSt cont j c O ∗ R) ⊢ wpc c (k ⟨⟩) Q) :
    iprop(env cont K ∗ waitSt cont j c O 31 ∗ R) ⊢ wpc c (.op (.waitDma2 s (slab0 tM) (slab0 tM) hsrc hdst) k) Q :=
  step_wait_last cont K j hj c O hO (wait_spec c j s hs) R h

end Steps

end Cert.SortKernelIdeal

end
-- ==== Proof.SortKernelIdealNet.lean ====
/-
The sorting network of the kernel body. The body does 91 compare-exchange stages on a buffer of 128 rows and 256 lanes, where the
number of an element is `256 * (row / 4) + lane`. A stage at distance `j < 256` shifts along the lanes, a stage at distance
`256 * t` shifts by `4 * t` rows. Here: one stage as a function (`ln`, `rw`), and each stretch of the body that only computes,
as a composite of stages. Nothing depends on how the floats are read.
-/
module

public import proofs.«01_k».proof.Proof.Gen.KernelIdeal
public import proofs.«01_k».proof.Proof.Gen.KernelIdeal.Skeleton
public import Idealize.ShloMosaic.Lib.Pipeline.Value

@[expose] public section

noncomputable section

namespace Cert.SortKernelIdeal

open Cert.KernelIdeal Cert.KernelIdeal.Gen
open Idealize.ShloMosaic
open Idealize.SL.Sem

variable {F : FTy → Type} [FloatOps F]

/-- A block of the 128 by 256 buffer: `m` rows and `n` lanes. -/
abbrev SB (m n : ℕ) : Shape := ⟨2, ![m, n]⟩

theorem slices1 (o n : ℕ) (h : o + n ≤ 256) : S128x256.Slices ![0, o] (SB 128 n) :=
  ⟨rfl, fun a => by
    match a with
    | ⟨0, _⟩ => exact le_refl 128
    | ⟨1, _⟩ => exact h⟩
theorem slices0 (o m : ℕ) (h : o + m ≤ 128) : S128x256.Slices ![o, 0] (SB m 256) :=
  ⟨rfl, fun a => by
    match a with
    | ⟨0, _⟩ => exact h
    | ⟨1, _⟩ => exact le_refl 256⟩
theorem concats1 (m n : ℕ) (h : m + n = 256) : Shape.Concatenates [SB 128 m, SB 128 n] S128x256 1 :=
  ⟨le_refl 2, fun s hs => by
    simp only [List.mem_cons, List.not_mem_nil, or_false] at hs
    rcases hs with rfl | rfl <;> exact ⟨rfl, fun b hb => by
      match b, hb with
      | ⟨0, _⟩, _ => rfl
      | ⟨1, _⟩, hb => exact absurd rfl hb⟩, h⟩
theorem concats0 (m n : ℕ) (h : m + n = 128) : Shape.Concatenates [SB m 256, SB n 256] S128x256 0 :=
  ⟨le_refl 2, fun s hs => by
    simp only [List.mem_cons, List.not_mem_nil, or_false] at hs
    rcases hs with rfl | rfl <;> exact ⟨rfl, fun b hb => by
      match b, hb with
      | ⟨0, _⟩, hb => exact absurd rfl hb
      | ⟨1, _⟩, _ => rfl⟩, h⟩

/-- The lanes from `o` on, `n` of them. -/
def cut1 (o n : ℕ) (V : Vec F S128x256 .f32) (h : o + n ≤ 256 := by decide) : FVec F (SB 128 n) .f32 :=
  extractStridedSlice (SB 128 n) ![0, o] V (slices1 o n h)
/-- The rows from `o` on, `m` of them. -/
def cut0 (o m : ℕ) (V : Vec F S128x256 .f32) (h : o + m ≤ 128 := by decide) : FVec F (SB m 256) .f32 :=
  extractStridedSlice (SB m 256) ![o, 0] V (slices0 o m h)
/-- The lanes rotated: lane `l` takes lane `l + j`. -/
def up1 (j : ℕ) (V : Vec F S128x256 .f32) (h : j ≤ 256 := by decide) : FVec F S128x256 .f32 :=
  concatenate S128x256 1 [⟨SB 128 (256 - j), cut1 j (256 - j) V (by omega)⟩, ⟨SB 128 j, cut1 0 j V (by omega)⟩]
    (concats1 (256 - j) j (by omega))
/-- The lanes rotated: lane `l` takes lane `l - j`. -/
def dn1 (j : ℕ) (V : Vec F S128x256 .f32) (h : j ≤ 256 := by decide) : FVec F S128x256 .f32 :=
  concatenate S128x256 1 [⟨SB 128 j, cut1 (256 - j) j V (by omega)⟩, ⟨SB 128 (256 - j), cut1 0 (256 - j) V (by omega)⟩]
    (concats1 j (256 - j) (by omega))
/-- The rows rotated: row `i` takes row `i + r`. -/
def up0 (r : ℕ) (V : Vec F S128x256 .f32) (h : r ≤ 128 := by decide) : FVec F S128x256 .f32 :=
  concatenate S128x256 0 [⟨SB (128 - r) 256, cut0 r (128 - r) V (by omega)⟩, ⟨SB r 256, cut0 0 r V (by omega)⟩]
    (concats0 (128 - r) r (by omega))
/-- The rows rotated: row `i` takes row `i - r`. -/
def dn0 (r : ℕ) (V : Vec F S128x256 .f32) (h : r ≤ 128 := by decide) : FVec F S128x256 .f32 :=
  concatenate S128x256 0 [⟨SB r 256, cut0 (128 - r) r V (by omega)⟩, ⟨SB (128 - r) 256, cut0 0 (128 - r) V (by omega)⟩]
    (concats0 r (128 - r) (by omega))

/-- The bits that `n` selects of the element numbers `X`. -/
def mw (X : IVec S128x256 32) (n : ℕ) : IVec S128x256 32 := andi X (broadcast S128x256 (BitVec.ofNat 32 n))
/-- Where that bit is zero. -/
def ms (X : IVec S128x256 32) (n : ℕ) : IVec S128x256 1 := cmpi .eq (mw X n) (broadcast S128x256 0#32)

/-- Where the two masks agree the lesser of an element and its partner, elsewhere the greater; the partner is `U` where the
    second mask holds and `D` elsewhere. -/
def cmb (mk mj : IVec S128x256 1) (V U D : FVec F S128x256 .f32) : FVec F S128x256 .f32 :=
  select (xori (xori mk mj) (constantI S128x256 1 1#1)) (minimumf V (select mj U D)) (maximumf V (select mj U D))

/-- The stage of block length `k` at distance `j`, along the lanes. -/
def ln (X : IVec S128x256 32) (k j : ℕ) (V : FVec F S128x256 .f32) (h : j ≤ 256 := by decide) : FVec F S128x256 .f32 :=
  cmb (ms X k) (ms X j) V (up1 j V h) (dn1 j V h)
/-- The stage of block length `k` at distance `64 * r`, by `r` rows. -/
def rw (X : IVec S128x256 32) (k r : ℕ) (V : FVec F S128x256 .f32) (h : r ≤ 128 := by decide) : FVec F S128x256 .f32 :=
  cmb (ms X k) (ms X (64 * r)) V (up0 r V h) (dn0 r V h)

/-- The stage of block length `2 ^ (l + 1)` at distance `2 ^ q`. -/
def st (X : IVec S128x256 32) (l q : ℕ) (V : FVec F S128x256 .f32) : FVec F S128x256 .f32 :=
  if h : q ≤ 7 then ln X (2 ^ (l + 1)) (2 ^ q) V (le_trans (Nat.pow_le_pow_right Nat.two_pos h) (by decide))
  else if h' : q ≤ 13 then rw X (2 ^ (l + 1)) (2 ^ (q - 6)) V (le_trans (Nat.pow_le_pow_right Nat.two_pos (by omega : q - 6 ≤ 7)) (by decide))
  else V

/-- The stages in order: for each block length the distances from half of it down to one. -/
def stages : List (ℕ × ℕ) := (List.range 13).flatMap fun l => (List.range (l + 1)).reverse.map fun q => (l, q)

/-- All 91 stages. -/
def net (X : IVec S128x256 32) (V : FVec F S128x256 .f32) : FVec F S128x256 .f32 := stages.foldl (fun V p => st X p.1 p.2 V) V

/-! ## The stretches of the body -/

section Stretches

variable (arg0 : Memref sig .tc .vmem S256x128 .f32) (harg0 : arg0.IsWhole) (arg1 : Memref sig .tc .vmem S256x128 .f32) (harg1 : arg1.IsWhole)
  (arg2 : Memref sig .tc .vmem S128x256 .f32) (harg2 : arg2.IsWhole) (arg3 : Memref sig .tc .vmem S128x256 .f32) (harg3 : arg3.IsWhole)
  (arg4 : Memref sig .tc .vmem S128x256 .f32) (harg4 : arg4.IsWhole)
  (arg5 : DmaSems sig S_) (arg6 : DmaSems sig S_) (arg7 : DmaSems sig S_) (arg8 : DmaSems sig S_)
  (X : IVec S128x256 32) (V : FVec F S128x256 .f32)

theorem pay3_val : k0_pay3 X = ms X 4 := rfl
theorem pay4_val : k0_pay4 X V = ln X 4 2 (ln X 2 1 V) := rfl
theorem pay5_val : k0_pay5 X V = up1 1 (ln X 4 2 (ln X 2 1 V)) := rfl
theorem pay6_val : k0_pay6 X V = dn1 1 (ln X 4 2 (ln X 2 1 V)) := rfl
theorem pay7_val : k0_pay7 X = mw X 1 := rfl

theorem part21_val :
    k0_part21 (F := F) arg0 harg0 arg1 harg1 arg2 harg2 arg3 harg3 arg4 harg4 arg5 arg6 arg7 arg8 X (ms X 4) V (up1 1 V) (dn1 1 V) (mw X 1)
      = pure ⟨ms X 8, ln X 8 2 (ln X 8 4 (ln X 4 1 V)), up1 1 (ln X 8 2 (ln X 8 4 (ln X 4 1 V))), dn1 1 (ln X 8 2 (ln X 8 4 (ln X 4 1 V)))⟩ := rfl

theorem part22_val :
    k0_part22 (F := F) arg0 harg0 arg1 harg1 arg2 harg2 arg3 harg3 arg4 harg4 arg5 arg6 arg7 arg8 X (ms X 8) V (up1 1 V) (dn1 1 V)
      = pure ⟨ms X 16, ln X 16 4 (ln X 16 8 (ln X 8 1 V)), up1 2 (ln X 16 4 (ln X 16 8 (ln X 8 1 V)))⟩ := rfl

theorem part23_val :
    k0_part23 (F := F) arg0 harg0 arg1 harg1 arg2 harg2 arg3 harg3 arg4 harg4 arg5 arg6 arg7 arg8 X (ms X 16) V (up1 2 V)
      = pure ⟨ms X 32, ln X 32 16 (ln X 16 1 (ln X 16 2 V))⟩ := rfl

theorem part24_val :
    k0_part24 (F := F) arg0 harg0 arg1 harg1 arg2 harg2 arg3 harg3 arg4 harg4 arg5 arg6 arg7 arg8 X (ms X 32) V
      = pure ⟨ln X 32 2 (ln X 32 4 (ln X 32 8 V)), up1 1 (ln X 32 2 (ln X 32 4 (ln X 32 8 V)))⟩ := rfl

theorem part25_val :
    k0_part25 (F := F) arg0 harg0 arg1 harg1 arg2 harg2 arg3 harg3 arg4 harg4 arg5 arg6 arg7 arg8 X (ms X 32) V (up1 1 V)
      = pure ⟨ms X 64, ln X 64 16 (ln X 64 32 (ln X 32 1 V))⟩ := rfl

theorem part26_val :
    k0_part26 (F := F) arg0 harg0 arg1 harg1 arg2 harg2 arg3 harg3 arg4 harg4 arg5 arg6 arg7 arg8 X (ms X 64) V
      = pure ⟨ln X 64 2 (ln X 64 4 (ln X 64 8 V)), up1 1 (ln X 64 2 (ln X 64 4 (ln X 64 8 V)))⟩ := rfl

theorem part27_val :
    k0_part27 (F := F) arg0 harg0 arg1 harg1 arg2 harg2 arg3 harg3 arg4 harg4 arg5 arg6 arg7 arg8 X (ms X 64) V (up1 1 V)
      = pure ⟨ms X 128, ln X 128 32 (ln X 128 64 (ln X 64 1 V))⟩ := rfl

theorem part28_val :
    k0_part28 (F := F) arg0 harg0 arg1 harg1 arg2 harg2 arg3 harg3 arg4 harg4 arg5 arg6 arg7 arg8 X (ms X 128) V
      = pure ⟨ln X 128 4 (ln X 128 8 (ln X 128 16 V)), up1 2 (ln X 128 4 (ln X 128 8 (ln X 128 16 V)))⟩ := rfl

theorem part29_val :
    k0_part29 (F := F) arg0 harg0 arg1 harg1 arg2 harg2 arg3 harg3 arg4 harg4 arg5 arg6 arg7 arg8 X (ms X 128) V (up1 2 V)
      = pure ⟨ms X 256, ln X 256 128 (ln X 128 1 (ln X 128 2 V))⟩ := rfl

theorem part30_val :
    k0_part30 (F := F) arg0 harg0 arg1 harg1 arg2 harg2 arg3 harg3 arg4 harg4 arg5 arg6 arg7 arg8 X (ms X 256) V
      = pure ⟨ln X 256 16 (ln X 256 32 (ln X 256 64 V)), up1 8 (ln X 256 16 (ln X 256 32 (ln X 256 64 V)))⟩ := rfl

theorem part31_val :
    k0_part31 (F := F) arg0 harg0 arg1 harg1 arg2 harg2 arg3 harg3 arg4 harg4 arg5 arg6 arg7 arg8 X (ms X 256) V (up1 8 V)
      = pure ⟨ln X 256 2 (ln X 256 4 (ln X 256 8 V)), up1 1 (ln X 256 2 (ln X 256 4 (ln X 256 8 V))), dn1 1 (ln X 256 2 (ln X 256 4 (ln X 256 8 V)))⟩ := rfl

theorem part32_val :
    k0_part32 (F := F) arg0 harg0 arg1 harg1 arg2 harg2 arg3 harg3 arg4 harg4 arg5 arg6 arg7 arg8 X (ms X 256) V (up1 1 V) (dn1 1 V)
      = pure ⟨ms X 512, ln X 512 128 (rw X 512 4 (ln X 256 1 V)), up1 64 (ln X 512 128 (rw X 512 4 (ln X 256 1 V)))⟩ := rfl

theorem part33_val :
    k0_part33 (F := F) arg0 harg0 arg1 harg1 arg2 harg2 arg3 harg3 arg4 harg4 arg5 arg6 arg7 arg8 X (ms X 512) V (up1 64 V)
      = pure ⟨ln X 512 16 (ln X 512 32 (ln X 512 64 V)), up1 8 (ln X 512 16 (ln X 512 32 (ln X 512 64 V))), dn1 8 (ln X 512 16 (ln X 512 32 (ln X 512 64 V)))⟩ := rfl

theorem part34_val :
    k0_part34 (F := F) arg0 harg0 arg1 harg1 arg2 harg2 arg3 harg3 arg4 harg4 arg5 arg6 arg7 arg8 X (ms X 512) V (up1 8 V) (dn1 8 V)
      = pure ⟨ln X 512 2 (ln X 512 4 (ln X 512 8 V)), up1 1 (ln X 512 2 (ln X 512 4 (ln X 512 8 V))), dn1 1 (ln X 512 2 (ln X 512 4 (ln X 512 8 V))), mw X 1⟩ := rfl

theorem part35_val :
    k0_part35 (F := F) arg0 harg0 arg1 harg1 arg2 harg2 arg3 harg3 arg4 harg4 arg5 arg6 arg7 arg8 X (ms X 512) V (up1 1 V) (dn1 1 V) (mw X 1)
      = pure ⟨ms X 1024, rw X 1024 4 (rw X 1024 8 (ln X 512 1 V)), up1 128 (rw X 1024 4 (rw X 1024 8 (ln X 512 1 V))), up1 128 (rw X 1024 4 (rw X 1024 8 (ln X 512 1 V)))⟩ := rfl

theorem part36_val :
    k0_part36 (F := F) arg0 harg0 arg1 harg1 arg2 harg2 arg3 harg3 arg4 harg4 arg5 arg6 arg7 arg8 X (ms X 1024) V (up1 128 V) (up1 128 V)
      = pure ⟨ln X 1024 32 (ln X 1024 64 (ln X 1024 128 V)), up1 16 (ln X 1024 32 (ln X 1024 64 (ln X 1024 128 V))), dn1 16 (ln X 1024 32 (ln X 1024 64 (ln X 1024 128 V))), mw X 16⟩ := rfl

theorem part37_val :
    k0_part37 (F := F) arg0 harg0 arg1 harg1 arg2 harg2 arg3 harg3 arg4 harg4 arg5 arg6 arg7 arg8 X (ms X 1024) V (up1 16 V) (dn1 16 V) (mw X 16)
      = pure ⟨ln X 1024 4 (ln X 1024 8 (ln X 1024 16 V)), up1 2 (ln X 1024 4 (ln X 1024 8 (ln X 1024 16 V))), dn1 2 (ln X 1024 4 (ln X 1024 8 (ln X 1024 16 V))), ms X 2⟩ := rfl

theorem part38_val :
    k0_part38 (F := F) arg0 harg0 arg1 harg1 arg2 harg2 arg3 harg3 arg4 harg4 arg5 arg6 arg7 arg8 X (ms X 1024) V (up1 2 V) (dn1 2 V) (ms X 2)
      = pure ⟨ms X 2048, rw X 2048 16 (ln X 1024 1 (ln X 1024 2 V)), up0 8 (rw X 2048 16 (ln X 1024 1 (ln X 1024 2 V))), dn0 8 (rw X 2048 16 (ln X 1024 1 (ln X 1024 2 V))), mw X 512⟩ := rfl

theorem part39_val :
    k0_part39 (F := F) arg0 harg0 arg1 harg1 arg2 harg2 arg3 harg3 arg4 harg4 arg5 arg6 arg7 arg8 X (ms X 2048) V (up0 8 V) (dn0 8 V) (mw X 512)
      = pure ⟨ln X 2048 128 (rw X 2048 4 (rw X 2048 8 V)), up1 64 (ln X 2048 128 (rw X 2048 4 (rw X 2048 8 V))), dn1 64 (ln X 2048 128 (rw X 2048 4 (rw X 2048 8 V))), ms X 64⟩ := rfl

theorem part40_val :
    k0_part40 (F := F) arg0 harg0 arg1 harg1 arg2 harg2 arg3 harg3 arg4 harg4 arg5 arg6 arg7 arg8 X (ms X 2048) V (up1 64 V) (dn1 64 V) (ms X 64)
      = pure ⟨ln X 2048 16 (ln X 2048 32 (ln X 2048 64 V)), select (ms X 8) (up1 8 (ln X 2048 16 (ln X 2048 32 (ln X 2048 64 V)))) (dn1 8 (ln X 2048 16 (ln X 2048 32 (ln X 2048 64 V)))), xori (ms X 2048) (ms X 8), constantI S128x256 1 1#1⟩ := rfl

theorem part41_val :
    k0_part41 (F := F) arg0 harg0 arg1 harg1 arg2 harg2 arg3 harg3 arg4 harg4 arg5 arg6 arg7 arg8 X (ms X 2048) V (select (ms X 8) (up1 8 V) (dn1 8 V)) (xori (ms X 2048) (ms X 8)) (constantI S128x256 1 1#1)
      = pure ⟨xori (xori (ms X 2048) (ms X 1)) (constantI S128x256 1 1#1), minimumf (ln X 2048 2 (ln X 2048 4 (ln X 2048 8 V))) (select (ms X 1) (up1 1 (ln X 2048 2 (ln X 2048 4 (ln X 2048 8 V)))) (dn1 1 (ln X 2048 2 (ln X 2048 4 (ln X 2048 8 V))))), maximumf (ln X 2048 2 (ln X 2048 4 (ln X 2048 8 V))) (select (ms X 1) (up1 1 (ln X 2048 2 (ln X 2048 4 (ln X 2048 8 V)))) (dn1 1 (ln X 2048 2 (ln X 2048 4 (ln X 2048 8 V)))))⟩ := rfl

theorem part42_val :
    k0_part42 (F := F) arg0 harg0 arg1 harg1 arg2 harg2 arg3 harg3 arg4 harg4 arg5 arg6 arg7 arg8 X (xori (xori (ms X 2048) (ms X 1)) (constantI S128x256 1 1#1)) (minimumf V (select (ms X 1) (up1 1 V) (dn1 1 V))) (maximumf V (select (ms X 1) (up1 1 V) (dn1 1 V)))
      = pure ⟨ms X 4096, rw X 4096 16 (rw X 4096 32 (ln X 2048 1 V)), select (ms X 512) (up0 8 (rw X 4096 16 (rw X 4096 32 (ln X 2048 1 V)))) (dn0 8 (rw X 4096 16 (rw X 4096 32 (ln X 2048 1 V)))), xori (ms X 4096) (ms X 512), constantI S128x256 1 1#1⟩ := rfl

theorem part43_val :
    k0_part43 (F := F) arg0 harg0 arg1 harg1 arg2 harg2 arg3 harg3 arg4 harg4 arg5 arg6 arg7 arg8 X (ms X 4096) V (select (ms X 512) (up0 8 V) (dn0 8 V)) (xori (ms X 4096) (ms X 512)) (constantI S128x256 1 1#1)
      = pure ⟨xori (xori (ms X 4096) (ms X 64)) (constantI S128x256 1 1#1), minimumf (ln X 4096 128 (rw X 4096 4 (rw X 4096 8 V))) (select (ms X 64) (up1 64 (ln X 4096 128 (rw X 4096 4 (rw X 4096 8 V)))) (dn1 64 (ln X 4096 128 (rw X 4096 4 (rw X 4096 8 V))))), maximumf (ln X 4096 128 (rw X 4096 4 (rw X 4096 8 V))) (select (ms X 64) (up1 64 (ln X 4096 128 (rw X 4096 4 (rw X 4096 8 V)))) (dn1 64 (ln X 4096 128 (rw X 4096 4 (rw X 4096 8 V)))))⟩ := rfl

theorem part44_val :
    k0_part44 (F := F) arg0 harg0 arg1 harg1 arg2 harg2 arg3 harg3 arg4 harg4 arg5 arg6 arg7 arg8 X (ms X 4096) (xori (xori (ms X 4096) (ms X 64)) (constantI S128x256 1 1#1)) (minimumf V (select (ms X 64) (up1 64 V) (dn1 64 V))) (maximumf V (select (ms X 64) (up1 64 V) (dn1 64 V)))
      = pure ⟨ln X 4096 8 (ln X 4096 16 (ln X 4096 32 (ln X 4096 64 V))), cut1 4 252 (ln X 4096 8 (ln X 4096 16 (ln X 4096 32 (ln X 4096 64 V)))), cut1 0 4 (ln X 4096 8 (ln X 4096 16 (ln X 4096 32 (ln X 4096 64 V))))⟩ := rfl

theorem part45_val :
    k0_part45 (F := F) arg0 harg0 arg1 harg1 arg2 harg2 arg3 harg3 arg4 harg4 arg5 arg6 arg7 arg8 X (ms X 4096) V (cut1 4 252 V) (cut1 0 4 V)
      = pure ⟨ln X 4096 1 (ln X 4096 2 (ln X 4096 4 V)), mw X 8192, broadcast S128x256 0#32⟩ := rfl

theorem part46_val :
    k0_part46 (F := F) arg0 harg0 arg1 harg1 arg2 harg2 arg3 harg3 arg4 harg4 arg5 arg6 arg7 arg8 X V (mw X 8192) (broadcast S128x256 0#32)
      = pure ⟨ms X 8192, rw X 8192 16 (rw X 8192 32 (rw X 8192 64 V)), cut0 8 120 (rw X 8192 16 (rw X 8192 32 (rw X 8192 64 V))), cut0 0 8 (rw X 8192 16 (rw X 8192 32 (rw X 8192 64 V)))⟩ := rfl

theorem part47_val :
    k0_part47 (F := F) arg0 harg0 arg1 harg1 arg2 harg2 arg3 harg3 arg4 harg4 arg5 arg6 arg7 arg8 X (ms X 8192) V (cut0 8 120 V) (cut0 0 8 V)
      = pure ⟨ln X 8192 128 (rw X 8192 4 (rw X 8192 8 V)), up1 64 (ln X 8192 128 (rw X 8192 4 (rw X 8192 8 V))), cut1 192 64 (ln X 8192 128 (rw X 8192 4 (rw X 8192 8 V))), cut1 0 192 (ln X 8192 128 (rw X 8192 4 (rw X 8192 8 V)))⟩ := rfl

theorem part48_val :
    k0_part48 (F := F) arg0 harg0 arg1 harg1 arg2 harg2 arg3 harg3 arg4 harg4 arg5 arg6 arg7 arg8 X (ms X 8192) V (up1 64 V) (cut1 192 64 V) (cut1 0 192 V)
      = pure ⟨ln X 8192 16 (ln X 8192 32 (ln X 8192 64 V)), up1 8 (ln X 8192 16 (ln X 8192 32 (ln X 8192 64 V))), dn1 8 (ln X 8192 16 (ln X 8192 32 (ln X 8192 64 V))), broadcast S128x256 8#32⟩ := rfl

theorem part49_val :
    k0_part49 (F := F) arg0 harg0 arg1 harg1 arg2 harg2 arg3 harg3 arg4 harg4 arg5 arg6 arg7 arg8 X (ms X 8192) V (up1 8 V) (dn1 8 V) (broadcast S128x256 8#32)
      = pure ⟨ln X 8192 2 (ln X 8192 4 (ln X 8192 8 V)), up1 1 (ln X 8192 2 (ln X 8192 4 (ln X 8192 8 V))), dn1 1 (ln X 8192 2 (ln X 8192 4 (ln X 8192 8 V))), mw X 1, broadcast S128x256 0#32⟩ := rfl

theorem pay109_val : k0_pay109 (ms X 8192) V (up1 1 V) (dn1 1 V) (mw X 1) (broadcast S128x256 0#32) = ln X 8192 1 V := by
  show shapeCast S128x256 (ln X 8192 1 V) shapeCasts_S128x256_S128x256 = _
  exact shapeCast_self _ _

theorem net_eq : ln X 8192 1 (ln X 8192 2 (ln X 8192 4 (ln X 8192 8 (ln X 8192 16 (ln X 8192 32 (ln X 8192 64 (ln X 8192 128 (rw X 8192 4 (rw X 8192 8 (rw X 8192 16 (rw X 8192 32 (rw X 8192 64 (ln X 4096 1 (ln X 4096 2 (ln X 4096 4 (ln X 4096 8 (ln X 4096 16 (ln X 4096 32 (ln X 4096 64 (ln X 4096 128 (rw X 4096 4 (rw X 4096 8 (rw X 4096 16 (rw X 4096 32 (ln X 2048 1 (ln X 2048 2 (ln X 2048 4 (ln X 2048 8 (ln X 2048 16 (ln X 2048 32 (ln X 2048 64 (ln X 2048 128 (rw X 2048 4 (rw X 2048 8 (rw X 2048 16 (ln X 1024 1 (ln X 1024 2 (ln X 1024 4 (ln X 1024 8 (ln X 1024 16 (ln X 1024 32 (ln X 1024 64 (ln X 1024 128 (rw X 1024 4 (rw X 1024 8 (ln X 512 1 (ln X 512 2 (ln X 512 4 (ln X 512 8 (ln X 512 16 (ln X 512 32 (ln X 512 64 (ln X 512 128 (rw X 512 4 (ln X 256 1 (ln X 256 2 (ln X 256 4 (ln X 256 8 (ln X 256 16 (ln X 256 32 (ln X 256 64 (ln X 256 128 (ln X 128 1 (ln X 128 2 (ln X 128 4 (ln X 128 8 (ln X 128 16 (ln X 128 32 (ln X 128 64 (ln X 64 1 (ln X 64 2 (ln X 64 4 (ln X 64 8 (ln X 64 16 (ln X 64 32 (ln X 32 1 (ln X 32 2 (ln X 32 4 (ln X 32 8 (ln X 32 16 (ln X 16 1 (ln X 16 2 (ln X 16 4 (ln X 16 8 (ln X 8 1 (ln X 8 2 (ln X 8 4 (ln X 4 1 (ln X 4 2 (ln X 2 1 (V)))))))))))))))))))))))))))))))))))))))))))))))))))))))))))))))))))))))))))))))))))))))))))
    = net X V := rfl

end Stretches

end Cert.SortKernelIdeal

end
-- ==== Proof.SortKernelIdealTurns.lean ====
/-
What a device holds between two stretches of the kernel body, and how one stretch's end becomes the next one's start: signals,
copies out, arrivals, the network, copies back, arrivals, and the waits for its own copies.
-/
module

public import proofs.«01_k».proof.Proof.SortKernelIdealMem
public import proofs.«01_k».proof.Proof.SortKernelIdealNet

@[expose] public section

noncomputable section

namespace Cert.SortKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` sends: out, its block transposed; back, its 128 columns sorted. -/
def sent (xv : Dev nD → Vec F S256x128 .f32) : Bool → Dev nD → Vec F S128x256 .f32
  | false => fun c => k0_pay1 (xv c)
  | true => fun c => net k0_pay2 (swp (fun p => k0_pay1 (xv p)) c)

/-- The block that device `c` ends with. -/
def result (xv : Dev nD → Vec F S256x128 .f32) (c : Dev nD) : Vec F S256x128 .f32 := k0_pay110 (swp (sent xv true) c)

variable (xv : Dev nD → Vec F S256x128 .f32) (K : Dev nD × Fin 5 → ℕ) (c : Dev nD)

/-! ## The parts -/

/-- Some contents of a whole buffer. -/
def someM {s : Shape} (M : Memref sig .tc .vmem s .f32) (c : Dev nD) : sProp 𝕄 := iprop(∃ X, owns (c : Thread nD τ) M fullShare X)
/-- The tokens of the copies of direction `b`. -/
def toks (b : Bool) : sProp 𝕄 :=
  bigSep Finset.univ fun q => iprop(dutyTok ER (sndCell b c) 0 q ∗ dutyTok ER (rcvCell b q) 0 c)
/-- Nothing has yet been taken at cell `j`. -/
def at0 (j : Fin 5) : sProp 𝕄 := atPos ER (kcell (c, j)) 0 ∅ 0
def zero (j : Fin 5) : sProp 𝕄 := semVal (kcell (c, j)) 0
/-- The credit of all 32 copies at cell `j`. -/
def cr (j : Fin 5) : sProp 𝕄 := cred (tallyAt (kcell (c, j)) () (32 * N))
/-- The rows of every device's result buffer that `c` writes. -/
def zlend : sProp 𝕄 := bigSep Finset.univ fun q => someSlab zM q c
def sigToks : sProp 𝕄 := bigSep (Finset.univ.erase c) fun q => dutyTok ER (barCell q) 0 c
def xAt : sProp 𝕄 := owns (c : Thread nD τ) xM fullShare (xv c)

/-- At the start. -/
def pre : sProp 𝕄 :=
  iprop(owesE c (O₀ c) ∗ sigToks c ∗ toks c false ∗ toks c true
    ∗ (at0 c 0 ∗ at0 c 1 ∗ at0 c 2 ∗ at0 c 3 ∗ at0 c 4)
    ∗ (cred (tallyAt (barCell c) () 31) ∗ cr c 2 ∗ cr c 4)
    ∗ xAt xv c ∗ someM oM c ∗ someM tM c ∗ someM wM c ∗ someM zM c)
/-- At the end. -/
def post : sProp 𝕄 :=
  iprop(owesE c 0 ∗ (zero c 0 ∗ zero c 1 ∗ zero c 2 ∗ zero c 3 ∗ zero c 4)
    ∗ xAt xv c ∗ owns (c : Thread nD τ) oM fullShare (result xv c) ∗ someM tM c ∗ someM wM c ∗ someM zM c)

/-- Kept while the signals go out, beside the block and what it is transposed into. -/
def kB : sProp 𝕄 :=
  iprop((lendP c c ∗ at0 c 0 ∗ cred (tallyAt (barCell c) () 31)) ∗ toks c false ∗ toks c true
    ∗ (at0 c 1 ∗ at0 c 2 ∗ at0 c 3 ∗ at0 c 4) ∗ (cr c 2 ∗ cr c 4) ∗ someM oM c)
/-- Kept while the barrier is waited on. -/
def kW : sProp 𝕄 :=
  iprop(owns (c : Thread nD τ) tM fullShare (sent xv false c) ∗ xAt xv c ∗ toks c false ∗ toks c true
    ∗ (at0 c 1 ∗ at0 c 2 ∗ at0 c 3 ∗ at0 c 4) ∗ (cr c 2 ∗ cr c 4) ∗ someM oM c)
/-- Kept while the block goes out. -/
def kF : sProp 𝕄 :=
  iprop(zlend c ∗ zero c 0 ∗ xAt xv c ∗ toks c true ∗ (at0 c 1 ∗ at0 c 2 ∗ at0 c 3 ∗ at0 c 4) ∗ (cr c 2 ∗ cr c 4) ∗ someM oM c)
/-- Kept while the columns arrive. -/
def kR : sProp 𝕄 :=
  iprop(zlend c ∗ zero c 0 ∗ xAt xv c ∗ toks c true ∗ (at0 c 1 ∗ at0 c 3 ∗ at0 c 4) ∗ (cr c 1 ∗ cr c 4) ∗ someM oM c)
/-- Kept while they are sorted. -/
def kS : sProp 𝕄 := iprop(env (sent xv) K ∗ owesE c (OR true Finset.univ) ∗ zero c 2 ∗ kR xv c)
/-- Kept while they go back. -/
def kT : sProp 𝕄 :=
  iprop(zero c 0 ∗ zero c 2 ∗ xAt xv c ∗ (at0 c 1 ∗ at0 c 3 ∗ at0 c 4) ∗ (cr c 1 ∗ cr c 4) ∗ someM oM c)
/-- Kept while the sorted block arrives. -/
def kZ : sProp 𝕄 :=
  iprop(zero c 0 ∗ zero c 2 ∗ xAt xv c ∗ (at0 c 1 ∗ at0 c 3) ∗ (cr c 1 ∗ cr c 3) ∗ someM oM c)
/-- Kept while the result is written. -/
def kO : sProp 𝕄 :=
  iprop(env (sent xv) K ∗ owesE c 0 ∗ zero c 0 ∗ zero c 2 ∗ zero c 4 ∗ xAt xv c ∗ (at0 c 1 ∗ at0 c 3) ∗ (cr c 1 ∗ cr c 3))
/-- Kept while the copies out are waited for. -/
def kU : sProp 𝕄 :=
  iprop(zero c 0 ∗ zero c 2 ∗ zero c 4 ∗ xAt xv c ∗ at0 c 3 ∗ cr c 3
    ∗ owns (c : Thread nD τ) zM fullShare (swp (sent xv true) c) ∗ owns (c : Thread nD τ) oM fullShare (result xv c))
/-- Kept while the copies back are waited for. -/
def kV : sProp 𝕄 :=
  iprop(zero c 0 ∗ zero c 1 ∗ zero c 2 ∗ zero c 4 ∗ xAt xv c ∗ owns (c : Thread nD τ) tM fullShare (sent xv false c)
    ∗ owns (c : Thread nD τ) zM fullShare (swp (sent xv true) c) ∗ owns (c : Thread nD τ) oM fullShare (result xv c))

/-! ## The turns -/

theorem some_of {s : Shape} (M : Memref sig .tc .vmem s .f32) (X : s.Idx → Elt F .f32) :
    (owns (c : Thread nD τ) M fullShare X : sProp 𝕄) ⊢ someM M c := by
  unfold someM; iintro H; iexists X; iexact H

theorem cred_none (g : GSem nD τ sig) : ⊢ (cred (tallyAt g () (0 * N)) : sProp 𝕄) := by
  rw [Nat.zero_mul, tallyAt_zero, cred_zero]; exact .rfl

/-- A cell not yet waited on, as the state before the first of its 32 waits. -/
theorem wait0 (cont : Bool → Dev nD → Vec F S128x256 .f32) (j : Fin 5) (O : CellTallies nD τ sig Unit) :
    iprop(owesE c O ∗ cr c j ∗ at0 c j) ⊢ (waitSt cont j c O 0 : sProp 𝕄) := by
  unfold waitSt cr at0
  rw [Nat.zero_mul]
  iintro ⟨HO, Hc, Ha⟩
  isplitl [HO]; · iexact HO
  isplitl [Hc]; · iexact Hc
  iexists ∅
  isplitl [Ha]; · iexact Ha
  rw [bigSep_empty]; iempintro

theorem turn_start : iprop(env (sent xv) K ∗ pre xv c) ⊢ iprop(env (sent xv) K ∗ sigSt c 1 ∗ xAt xv c ∗ someM tM c ∗ kB c) := by
  unfold pre kB sigSt O₀
  rw [rem_one, bigSep_sep']
  iintro ⟨#He, HO, Hs, HtF, HtT, ⟨Ha0, Ha⟩, ⟨Hc, Hcr⟩, Hx, Ho, Ht, Hw, Hz⟩
  unfold sigToks
  ihave ⟨Hl, Hls⟩ := (lend_all (F := F) c) $$ [Hw Hz]
  · unfold someM; isplitl [Hw]
    · iexact Hw
    · iexact Hz
  isplitr; · iexact He
  isplitl [HO Hs Hls]
  · isplitl [HO]; · iexact HO
    isplitl [Hs]; · iexact Hs
    iexact Hls
  iframe

theorem turn_bar : iprop(owns (c : Thread nD τ) tM fullShare (sent xv false c) ∗ xAt xv c ∗ env (sent xv) K ∗ sigSt c 32 ∗ kB c)
    ⊢ iprop(env (sent xv) K ∗ (sigSt c 32 ∗ lendP c c ∗ atPos ER (barCell c) 0 ∅ 0 ∗ cred (tallyAt (barCell c) () 31)) ∗ kW xv c) := by
  unfold kB kW
  iintro ⟨Ht, Hx, #He, Hs, ⟨Hl, Ha, Hc⟩, Hr⟩
  isplitr; · iexact He
  isplitl [Hs Hl Ha Hc]
  · isplitl [Hs]; · iexact Hs
    isplitl [Hl]; · iexact Hl
    isplitl [Ha]; · unfold at0; iexact Ha
    iexact Hc
  isplitl [Ht]; · iexact Ht
  isplitl [Hx]; · iexact Hx
  iexact Hr

theorem turn_out : iprop(env (sent xv) K ∗ (owesE c (OR false Finset.univ + OR true Finset.univ) ∗ semVal (barCell c) 0
      ∗ bigSep Finset.univ fun q => lendP q c) ∗ kW xv c)
    ⊢ iprop(env (sent xv) K ∗ sndSt (sent xv) false c 0 ∗ kF xv c) := by
  unfold kW kF sndSt lendP toks zlend
  rw [rem_zero]; simp only [bigSep_sep']
  iintro ⟨#He, ⟨HO, Hz, Hw, Hzl⟩, Ht, Hx, HtF, HtT, Ha, Hcr, Ho⟩
  ihave Hp := (split_snd (sent xv) false c) $$ Ht
  ihave Hc := (cred_none (F := F) (sndCell false c))
  isplitr; · iexact He
  isplitl [HO HtF Hp Hw Hc]
  · isplitl [HO]; · unfold after; iexact HO
    isplitl [HtF Hp Hw]
    · isplitl [HtF]; · iexact HtF
      isplitl [Hp]; · iexact Hp
      iexact Hw
    iexact Hc
  isplitl [Hzl]; · iexact Hzl
  isplitl [Hz]; · unfold zero; iexact Hz
  iframe

theorem turn_in : iprop(env (sent xv) K ∗ sndSt (sent xv) false c 32 ∗ kF xv c)
    ⊢ iprop(env (sent xv) K ∗ waitSt (sent xv) 2 c (OR true Finset.univ) 0 ∗ kR xv c) := by
  unfold kF kR sndSt
  rw [rem_end, OR_empty, zero_add, bigSep_empty]
  iintro ⟨#He, ⟨HO, -, Hc⟩, Hzl, Hz, Hx, HtT, ⟨Ha1, Ha2, Ha⟩, ⟨Hc2, Hc4⟩, Ho⟩
  isplitr; · iexact He
  isplitl [HO Ha2 Hc2]
  · iapply (wait0 c (sent xv) 2 (OR true Finset.univ))
    isplitl [HO]; · unfold after; iexact HO
    isplitl [Hc2]; · iexact Hc2
    iexact Ha2
  isplitl [Hzl]; · iexact Hzl
  isplitl [Hz]; · iexact Hz
  isplitl [Hx]; · iexact Hx
  isplitl [HtT]; · iexact HtT
  isplitl [Ha1 Ha]
  · isplitl [Ha1]; · iexact Ha1
    iexact Ha
  isplitl [Hc Hc4]
  · isplitl [Hc]; · unfold cr; iexact Hc
    iexact Hc4
  iexact Ho

theorem turn_sort : iprop(env (sent xv) K ∗ doneSt (sent xv) 2 c (OR true Finset.univ) ∗ kR xv c)
    ⊢ iprop(owns (c : Thread nD τ) wM fullShare (swp (sent xv false) c) ∗ kS xv K c) := by
  unfold kS doneSt
  iintro ⟨#He, ⟨HO, Hz, Hp⟩, Hk⟩
  isplitl [Hp]; · iapply (gather_rcv (sent xv) false c); iexact Hp
  isplitr; · iexact He
  isplitl [HO]; · iexact HO
  isplitl [Hz]; · unfold zero; iexact Hz
  iexact Hk

theorem turn_back : iprop(owns (c : Thread nD τ) wM fullShare (sent xv true c) ∗ kS xv K c)
    ⊢ iprop(env (sent xv) K ∗ sndSt (sent xv) true c 0 ∗ kT xv c) := by
  unfold kS kR kT sndSt toks zlend
  rw [rem_zero]; simp only [bigSep_sep']
  iintro ⟨Hw, #He, HO, Hz2, Hzl, Hz, Hx, HtT, Ha, Hcr, Ho⟩
  ihave Hp := (split_snd (sent xv) true c) $$ Hw
  ihave Hc := (cred_none (F := F) (sndCell true c))
  isplitr; · iexact He
  isplitl [HO HtT Hp Hzl Hc]
  · isplitl [HO]; · unfold after; rw [add_zero]; iexact HO
    isplitl [HtT Hp Hzl]
    · isplitl [HtT]; · iexact HtT
      isplitl [Hp]; · iexact Hp
      iexact Hzl
    iexact Hc
  isplitl [Hz]; · iexact Hz
  iframe

theorem turn_home : iprop(env (sent xv) K ∗ sndSt (sent xv) true c 32 ∗ kT xv c)
    ⊢ iprop(env (sent xv) K ∗ waitSt (sent xv) 4 c 0 0 ∗ kZ xv c) := by
  unfold kT kZ sndSt
  rw [rem_end, OR_empty, zero_add, bigSep_empty]
  iintro ⟨#He, ⟨HO, -, Hc⟩, Hz, Hz2, Hx, ⟨Ha1, Ha3, Ha4⟩, ⟨Hc1, Hc4⟩, Ho⟩
  isplitr; · iexact He
  isplitl [HO Ha4 Hc4]
  · iapply (wait0 c (sent xv) 4 0)
    isplitl [HO]; · unfold after; iexact HO
    isplitl [Hc4]; · iexact Hc4
    iexact Ha4
  isplitl [Hz]; · iexact Hz
  isplitl [Hz2]; · iexact Hz2
  isplitl [Hx]; · iexact Hx
  isplitl [Ha1 Ha3]
  · isplitl [Ha1]; · iexact Ha1
    iexact Ha3
  isplitl [Hc Hc1]
  · isplitl [Hc1]; · iexact Hc1
    unfold cr; iexact Hc
  iexact Ho

theorem turn_write : iprop(env (sent xv) K ∗ doneSt (sent xv) 4 c 0 ∗ kZ xv c)
    ⊢ iprop(owns (c : Thread nD τ) zM fullShare (swp (sent xv true) c) ∗ someM oM c ∗ kO xv K c) := by
  unfold kZ kO doneSt
  iintro ⟨#He, ⟨HO, Hz, Hp⟩, Hz0, Hz2, Hx, Ha, Hc, Ho⟩
  isplitl [Hp]; · iapply (gather_rcv (sent xv) true c); iexact Hp
  isplitl [Ho]; · iexact Ho
  isplitr; · iexact He
  isplitl [HO]; · iexact HO
  isplitl [Hz0]; · iexact Hz0
  isplitl [Hz2]; · iexact Hz2
  isplitl [Hz]; · unfold zero; iexact Hz
  iframe

theorem turn_own : iprop(owns (c : Thread nD τ) oM fullShare (result xv c) ∗ owns (c : Thread nD τ) zM fullShare (swp (sent xv true) c) ∗ kO xv K c)
    ⊢ iprop(env (sent xv) K ∗ waitSt (sent xv) 1 c 0 0 ∗ kU xv c) := by
  unfold kO kU
  iintro ⟨Ho, Hzm, #He, HO, Hz0, Hz2, Hz4, Hx, ⟨Ha1, Ha3⟩, ⟨Hc1, Hc3⟩⟩
  isplitr; · iexact He
  isplitl [HO Ha1 Hc1]
  · iapply (wait0 c (sent xv) 1 0)
    isplitl [HO]; · iexact HO
    isplitl [Hc1]; · iexact Hc1
    iexact Ha1
  iframe

theorem turn_last : iprop(env (sent xv) K ∗ doneSt (sent xv) 1 c 0 ∗ kU xv c)
    ⊢ iprop(env (sent xv) K ∗ waitSt (sent xv) 3 c 0 0 ∗ kV xv c) := by
  unfold kU kV doneSt
  iintro ⟨#He, ⟨HO, Hz, Hp⟩, Hz0, Hz2, Hz4, Hx, Ha3, Hc3, Hzm, Ho⟩
  isplitr; · iexact He
  isplitl [HO Ha3 Hc3]
  · iapply (wait0 c (sent xv) 3 0)
    isplitl [HO]; · iexact HO
    isplitl [Hc3]; · iexact Hc3
    iexact Ha3
  isplitl [Hz0]; · iexact Hz0
  isplitl [Hz]; · unfold zero; iexact Hz
  isplitl [Hz2]; · iexact Hz2
  isplitl [Hz4]; · iexact Hz4
  isplitl [Hx]; · iexact Hx
  isplitl [Hp]; · iapply (gather_snd (sent xv) false c); iexact Hp
  isplitl [Hzm]; · iexact Hzm
  iexact Ho

theorem turn_end : iprop(env (sent xv) K ∗ doneSt (sent xv) 3 c 0 ∗ kV xv c) ⊢ post xv c := by
  unfold kV post doneSt
  iintro ⟨-, ⟨HO, Hz, Hp⟩, Hz0, Hz1, Hz2, Hz4, Hx, Ht, Hzm, Ho⟩
  isplitl [HO]; · iexact HO
  isplitl [Hz0 Hz1 Hz2 Hz4 Hz]
  · isplitl [Hz0]; · iexact Hz0
    isplitl [Hz1]; · iexact Hz1
    isplitl [Hz2]; · iexact Hz2
    isplitl [Hz]; · unfold zero; iexact Hz
    iexact Hz4
  isplitl [Hx]; · iexact Hx
  isplitl [Ho]; · iexact Ho
  isplitl [Ht]; · iapply (some_of c tM _); iexact Ht
  isplitl [Hp]
  · iapply (some_of c wM (sent xv true c)); iapply (gather_snd (sent xv) true c); iexact Hp
  iapply (some_of c zM _); iexact Hzm

end Cert.SortKernelIdeal

end
-- ==== Proof.SortKernelIdealBody.lean ====
/-
The kernel body on a device `c`, which is a variable: from what the device holds at launch to what it holds at the end. The walk goes
once over the body, stretch by stretch; within a stretch every operation is one step of the exchange protocol.
-/
module

public import proofs.«01_k».proof.Proof.SortKernelIdealTurns

@[expose] public section

set_option maxRecDepth 16384

noncomputable section

namespace Cert.SortKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xv : Dev nD → Vec F S256x128 .f32) (K : Dev nD × Fin 5 → ℕ) (c : Dev nD)

theorem wpc_deviceId {α : Type} {Q : α → sProp 𝕄} {k : Dev nD → Prog (TpuEff nD τ sig (Elt F) Λ₀ .tc) α} :
    wpc c (.op .deviceId k) Q = wpc c (k c) Q := wp_deviceId 𝒱₀ (c : Thread nD τ) none Set.univ

theorem zero2 : (![0, 0] : Fin 2 → ℕ) = fun _ => 0 := by funext a; fin_cases a <;> rfl

variable (h0 : xM.IsWhole) (h1 : oM.IsWhole) (h2 : tM.IsWhole) (h3 : wM.IsWhole) (h4 : zM.IsWhole)

set_option maxHeartbeats 2000000 in
/-- From the start to the middle of the last arrivals. -/
theorem body72 {Q : (Σ' (v2 : BitVec 32), BitVec 32) → sProp 𝕄} (hQ₀ : ∀ r, iprop(env (sent xv) K ∗ waitSt (sent xv) 4 c 0 15 ∗ kZ xv c) ⊢ Q r) :
    iprop(env (sent xv) K ∗ pre xv c) ⊢ wpc c (k0_part72 (F := F) xM h0 oM h1 tM h2 wM h3 zM h4 cc0_scratch3 cc0_scratch4 cc0_scratch5 cc0_scratch6) Q := by
  rw [k0_part72_eq_skeleton]; unfold k0_part72_skel
  refine (turn_start xv K c).trans ?_
  refine seqv c (fun r => r.1 = c ∧ r.2.2.1 = SemArray.scalar (sig.barrier 0 rfl)) iprop(env (sent xv) K ∗ sigSt c 7 ∗ xAt xv c ∗ someM tM c ∗ kB c) (fun Q' hQ => ?_) fun ⟨d0, v2, v3, r⟩ ⟨hd, hv⟩ => ?_
  · rw [k0_part1_eq_skeleton]; unfold k0_part1_skel
    simp only [Prog.lift, semSignalWord, semWaitWord, Prog.bind_op, Prog.bind_ret, Prog.pure_eq_ret]
    rw [wpc_deviceId]
    iterate 6 refine signal_at (sent xv) K c _ (by decide) (by decide) (by rfl) (by rfl) _ ?_
    exact done c (hQ _ ⟨rfl, rfl⟩)
  obtain rfl : c = d0 := hd.symm
  obtain rfl : v3 = SemArray.scalar (sig.barrier 0 rfl) := hv
  dsimp only
  refine seq c iprop(env (sent xv) K ∗ sigSt c 15 ∗ xAt xv c ∗ someM tM c ∗ kB c) (fun Q' hQ => ?_) fun r => ?_
  · rw [k0_part2_eq_skeleton]; unfold k0_part2_skel
    simp only [Prog.lift, semSignalWord, semWaitWord, Prog.bind_op, Prog.bind_ret, Prog.pure_eq_ret]
    iterate 8 refine signal_at (sent xv) K c _ (by decide) (by decide) (by rfl) (by rfl) _ ?_
    exact done c (hQ _)
  refine seq c iprop(env (sent xv) K ∗ sigSt c 22 ∗ xAt xv c ∗ someM tM c ∗ kB c) (fun Q' hQ => ?_) fun r => ?_
  · rw [k0_part3_eq_skeleton]; unfold k0_part3_skel
    simp only [Prog.lift, semSignalWord, semWaitWord, Prog.bind_op, Prog.bind_ret, Prog.pure_eq_ret]
    iterate 7 refine signal_at (sent xv) K c _ (by decide) (by decide) (by rfl) (by rfl) _ ?_
    exact done c (hQ _)
  refine seq c iprop(env (sent xv) K ∗ sigSt c 30 ∗ xAt xv c ∗ someM tM c ∗ kB c) (fun Q' hQ => ?_) fun r => ?_
  · rw [k0_part4_eq_skeleton]; unfold k0_part4_skel
    simp only [Prog.lift, semSignalWord, semWaitWord, Prog.bind_op, Prog.bind_ret, Prog.pure_eq_ret]
    iterate 8 refine signal_at (sent xv) K c _ (by decide) (by decide) (by rfl) (by rfl) _ ?_
    exact done c (hQ _)
  refine seq c iprop(env (sent xv) K ∗ sndSt (sent xv) false c 2 ∗ kF xv c) (fun Q' hQ => ?_) fun r => ?_
  · rw [k0_part5_eq_skeleton]; unfold k0_part5_skel
    simp only [Prog.lift, semSignalWord, semWaitWord, Prog.bind_op, Prog.bind_ret, Prog.pure_eq_ret]
    iterate 2 refine signal_at (sent xv) K c _ (by decide) (by decide) (by rfl) (by rfl) _ ?_
    refine step_load c xM (xv c) zero2 iprop(env (sent xv) K ∗ sigSt c 32 ∗ someM tM c ∗ kB c) (by unfold xAt; iintro ⟨He, Hs, Hx, Hr⟩; iframe) ?_
    refine Entails.trans (Q := iprop(∃ Y, owns (c : Thread nD τ) tM fullShare Y ∗ xAt xv c ∗ env (sent xv) K ∗ sigSt c 32 ∗ kB c)) (by
      unfold xAt someM; iintro ⟨Hx, He, Hs, ⟨%Y, Ht⟩, Hk⟩; iexists Y; iframe) ?_
    refine exists_elim fun Y => ?_
    refine step_load c tM Y zero2 _ .rfl ?_
    refine step_store c tM Y (sent xv false c) zero2 _ .rfl ?_
    refine (turn_bar xv K c).trans ?_
    refine barwait_at (sent xv) K c (by rfl) _ ?_
    refine (turn_out xv K c).trans ?_
    iterate 2 refine send_at (sent xv) K false c _ (by decide) (by rfl) (by rfl) (by rfl) _ ?_
    exact done c (hQ _)
  refine seq c iprop(env (sent xv) K ∗ sndSt (sent xv) false c 6 ∗ kF xv c) (fun Q' hQ => ?_) fun r => ?_
  · rw [k0_part6_eq_skeleton]; unfold k0_part6_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 10 ∗ kF xv c) (fun Q' hQ => ?_) fun r => ?_
  · rw [k0_part7_eq_skeleton]; unfold k0_part7_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 14 ∗ kF xv c) (fun Q' hQ => ?_) fun r => ?_
  · rw [k0_part8_eq_skeleton]; unfold k0_part8_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 18 ∗ kF xv c) (fun Q' hQ => ?_) fun r => ?_
  · rw [k0_part9_eq_skeleton]; unfold k0_part9_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 22 ∗ kF xv c) (fun Q' hQ => ?_) fun r => ?_
  · rw [k0_part10_eq_skeleton]; unfold k0_part10_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 26 ∗ kF xv c) (fun Q' hQ => ?_) fun r => ?_
  · rw [k0_part11_eq_skeleton]; unfold k0_part11_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ sndSt (sent xv) false c 30 ∗ kF xv c) (fun Q' hQ => ?_) fun r => ?_
  · rw [k0_part12_eq_skeleton]; unfold k0_part12_skel
    simp only [Prog.lift, semSignalWord, semWaitWord, Prog.bind_op, Prog.bind_ret, Prog.pure_eq_ret]
    iterate 4 refine send_at (sent xv) K false c _ (by decide) (by rfl) (by rfl) (by rfl) _ ?_
    exact done c (hQ _)
  refine seq c iprop(env (sent xv) K ∗ waitSt (sent xv) 2 c (OR true Finset.univ) 2 ∗ kR xv c) (fun Q' hQ => ?_) fun r => ?_
  · rw [k0_part13_eq_skeleton]; unfold k0_part13_skel
    simp only [Prog.lift, semSignalWord, semWaitWord, Prog.bind_op, Prog.bind_ret, Prog.pure_eq_ret]
    iterate 2 refine send_at (sent xv) K false c _ (by decide) (by rfl) (by rfl) (by rfl) _ ?_
    refine (turn_in xv K c).trans ?_
    iterate 2 refine wait_at (sent xv) K 2 (by decide) c (mayWait_rcv c) _ (by decide) rfl _ ?_
    exact done c (hQ _)
  refine seq c iprop(env (sent xv) K ∗ waitSt (sent xv) 2 c (OR true Finset.univ) 8 ∗ kR xv c) (fun Q' hQ => ?_) fun r => ?_
  · rw [k0_part14_eq_skeleton]; unfold k0_part14_skel
    simp only [Prog.lift, semSignalWord, semWaitWord, Prog.bind_op, Prog.bind_ret, Prog.pure_eq_ret]
    iterate 6 refine wait_at (sent xv) K 2 (by decide) c (mayWait_rcv c) _ (by decide) rfl _ ?_
    exact done c (hQ _)
  refine seq c iprop(env (sent xv) K ∗ waitSt (sent xv) 2 c (OR true Finset.univ) 13 ∗ kR xv c) (fun Q' hQ => ?_) fun r => ?_
  · rw [k0_part15_eq_skeleton]; unfold k0_part15_skel
    simp only [Prog.lift, semSignalWord, semWaitWord, Prog.bind_op, Prog.bind_ret, Prog.pure_eq_ret]
    iterate 5 refine wait_at (sent xv) K 2 (by decide) c (mayWait_rcv c) _ (by decide) rfl _ ?_
    exact done c (hQ _)
  refine seq c iprop(env (sent xv) K ∗ waitSt (sent xv) 2 c (OR true Finset.univ) 19 ∗ kR xv c) (fun Q' hQ => ?_) fun r => ?_
  · rw [k0_part16_eq_skeleton]; unfold k0_part16_skel
    simp only [Prog.lift, semSignalWord, semWaitWord, Prog.bind_op, Prog.bind_ret, Prog.pure_eq_ret]
    iterate 6 refine wait_at (sent xv) K 2 (by decide) c (mayWait_rcv c) _ (by decide) rfl _ ?_
    exact done c (hQ _)
  refine seq c iprop(env (sent xv) K ∗ waitSt (sent xv) 2 c (OR true Finset.univ) 24 ∗ kR xv c) (fun Q' hQ => ?_) fun r => ?_
  · rw [k0_part17_eq_skeleton]; unfold k0_part17_skel
    simp only [Prog.lift, semSignalWord, semWaitWord, Prog.bind_op, Prog.bind_ret, Prog.pure_eq_ret]
    iterate 5 refine wait_at (sent xv) K 2 (by decide) c (mayWait_rcv c) _ (by decide) rfl _ ?_
    exact done c (hQ _)
  refine seq c iprop(env (sent xv) K ∗ waitSt (sent xv) 2 c (OR true Finset.univ) 30 ∗ kR xv c) (fun Q' hQ => ?_) fun r => ?_
  · rw [k0_part18_eq_skeleton]; unfold k0_part18_skel
    simp only [Prog.lift, semSignalWord, semWaitWord, Prog.bind_op, Prog.bind_ret, Prog.pure_eq_ret]
    iterate 6 refine wait_at (sent xv) K 2 (by decide) c (mayWait_rcv c) _ (by decide) rfl _ ?_
    exact done c (hQ _)
  refine seqv c (fun r => r = k0_pay2) iprop(owns (c : Thread nD τ) wM fullShare (swp (sent xv false) c) ∗ kS xv K c) (fun Q' hQ => ?_) fun _ hr => ?_
  · rw [k0_part19_eq_skeleton]; unfold k0_part19_skel
    simp only [Prog.lift, semSignalWord, semWaitWord, Prog.bind_op, Prog.bind_ret, Prog.pure_eq_ret]
    refine wait_at (sent xv) K 2 (by decide) c (mayWait_rcv c) _ (by decide) rfl _ ?_
    refine wait_end (sent xv) K 2 (by decide) c (mayWait_rcv c) rfl _ ?_
    refine (turn_sort xv K c).trans ?_
    exact done c (hQ _ rfl)
  subst hr
  refine seqv c (fun r => r = ⟨k0_pay3 k0_pay2, k0_pay4 k0_pay2 (swp (sent xv false) c), k0_pay5 k0_pay2 (swp (sent xv false) c), k0_pay6 k0_pay2 (swp (sent xv false) c), k0_pay7 k0_pay2⟩)
    iprop(owns (c : Thread nD τ) wM fullShare (swp (sent xv false) c) ∗ kS xv K c) (fun Q' hQ => ?_) fun _ hr => ?_
  · rw [k0_part20_eq_skeleton]; unfold k0_part20_skel
    simp only [Prog.lift, semSignalWord, semWaitWord, Prog.bind_op, Prog.bind_ret, Prog.pure_eq_ret]
    refine step_load c wM (swp (sent xv false) c) zero2 _ .rfl ?_
    exact done c (hQ _ rfl)
  subst hr
  generalize hX : (k0_pay2 : IVec S128x256 32) = X
  generalize hV : swp (sent xv false) c = V
  simp only [pay3_val, pay4_val, pay5_val, pay6_val, pay7_val, part21_val, part22_val, part23_val, part24_val, part25_val, part26_val, part27_val, part28_val, part29_val, part30_val, part31_val, part32_val, part33_val, part34_val, part35_val, part36_val, part37_val, part38_val, part39_val, part40_val, part41_val, part42_val, part43_val, part44_val, part45_val, part46_val, part47_val, part48_val, part49_val, pure_bind]
  refine seq c iprop(env (sent xv) K ∗ sndSt (sent xv) true c 3 ∗ kT xv c) (fun Q' hQ => ?_) fun r => ?_
  · rw [k0_part50_eq_skeleton]; unfold k0_part50_skel
    simp only [Prog.lift, semSignalWord, semWaitWord, Prog.bind_op, Prog.bind_ret, Prog.pure_eq_ret]
    rw [pay109_val, net_eq]
    refine step_load c wM V zero2 _ .rfl ?_
    refine step_store c wM V (net X V) zero2 _ .rfl ?_
    rw [show net X V = sent xv true c by rw [← hX, ← hV]; rfl]
    refine (turn_back xv K c).trans ?_
    iterate 3 refine send_at (sent xv) K true c _ (by decide) (by rfl) (by rfl) (by rfl) _ ?_
    exact done c (hQ _)
  refine seq c iprop(env (sent xv) K ∗ sndSt (sent xv) true c 7 ∗ kT xv c) (fun Q' hQ => ?_) fun r => ?_
  · rw [k0_part51_eq_skeleton]; unfold k0_part51_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 11 ∗ kT xv c) (fun Q' hQ => ?_) fun r => ?_
  · rw [k0_part52_eq_skeleton]; unfold k0_part52_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 15 ∗ kT xv c) (fun Q' hQ => ?_) fun r => ?_
  · rw [k0_part53_eq_skeleton]; unfold k0_part53_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 19 ∗ kT xv c) (fun Q' hQ => ?_) fun r => ?_
  · rw [k0_part54_eq_skeleton]; unfold k0_part54_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 23 ∗ kT xv c) (fun Q' hQ => ?_) fun r => ?_
  · rw [k0_part55_eq_skeleton]; unfold k0_part55_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 27 ∗ kT xv c) (fun Q' hQ => ?_) fun r => ?_
  · rw [k0_part56_eq_skeleton]; unfold k0_part56_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ sndSt (sent xv) true c 31 ∗ kT xv c) (fun Q' hQ => ?_) fun r => ?_
  · rw [k0_part57_eq_skeleton]; unfold k0_part57_skel
    simp only [Prog.lift, semSignalWord, semWaitWord, Prog.bind_op, Prog.bind_ret, Prog.pure_eq_ret]
    iterate 4 refine send_at (sent xv) K true c _ (by decide) (by rfl) (by rfl) (by rfl) _ ?_
    exact done c (hQ _)
  refine seq c iprop(env (sent xv) K ∗ waitSt (sent xv) 4 c 0 4 ∗ kZ xv c) (fun Q' hQ => ?_) fun r => ?_
  · rw [k0_part58_eq_skeleton]; unfold k0_part58_skel
    simp only [Prog.lift, semSignalWord, semWaitWord, Prog.bind_op, Prog.bind_ret, Prog.pure_eq_ret]
    refine send_at (sent xv) K true c _ (by decide) (by rfl) (by rfl) (by rfl) _ ?_
    refine (turn_home xv K c).trans ?_
    iterate 4 refine wait_at (sent xv) K 4 (by decide) c (mayWait_none c _) _ (by decide) rfl _ ?_
    exact done c (hQ _)
  refine seq c iprop(env (sent xv) K ∗ waitSt (sent xv) 4 c 0 9 ∗ kZ xv c) (fun Q' hQ => ?_) fun r => ?_
  · rw [k0_part59_eq_skeleton]; unfold k0_part59_skel
    simp only [Prog.lift, semSignalWord, semWaitWord, Prog.bind_op, Prog.bind_ret, Prog.pure_eq_ret]
    iterate 5 refine wait_at (sent xv) K 4 (by decide) c (mayWait_none c _) _ (by decide) rfl _ ?_
    exact done c (hQ _)
  refine seq c iprop(env (sent xv) K ∗ waitSt (sent xv) 4 c 0 15 ∗ kZ xv c) (fun Q' hQ => ?_) fun r => ?_
  · rw [k0_part60_eq_skeleton]; unfold k0_part60_skel
    simp only [Prog.lift, semSignalWord, semWaitWord, Prog.bind_op, Prog.bind_ret, Prog.pure_eq_ret]
    iterate 6 refine wait_at (sent xv) K 4 (by decide) c (mayWait_none c _) _ (by decide) rfl _ ?_
    exact done c (hQ _)
  exact done c (hQ₀ _)

set_option maxHeartbeats 2000000 in
/-- The whole body. -/
theorem body : iprop(env (sent xv) K ∗ pre xv c)
    ⊢ wpc c (cc0_body (F := F) xM h0 oM h1 tM h2 wM h3 zM h4 cc0_scratch3 cc0_scratch4 cc0_scratch5 cc0_scratch6) (fun _ => post xv c) := by
  rw [cc0_body_eq_skeleton]; unfold cc0_body_skel
  refine seq c iprop(env (sent xv) K ∗ waitSt (sent xv) 4 c 0 15 ∗ kZ xv c) (fun Q' hQ => body72 xv K c h0 h1 h2 h3 h4 hQ) fun ⟨v2, r⟩ => ?_
  dsimp only
  refine seq c iprop(env (sent xv) K ∗ waitSt (sent xv) 4 c 0 20 ∗ kZ xv c) (fun Q' hQ => ?_) fun r => ?_
  · rw [k0_part61_eq_skeleton]; unfold k0_part61_skel
    simp only [Prog.lift, semSignalWord, semWaitWord, Prog.bind_op, Prog.bind_ret, Prog.pure_eq_ret]
    iterate 5 refine wait_at (sent xv) K 4 (by decide) c (mayWait_none c _) _ (by decide) rfl _ ?_
    exact done c (hQ _)
  refine seq c iprop(env (sent xv) K ∗ waitSt (sent xv) 4 c 0 26 ∗ kZ xv c) (fun Q' hQ => ?_) fun r => ?_
  · rw [k0_part62_eq_skeleton]; unfold k0_part62_skel
    simp only [Prog.lift, semSignalWord, semWaitWord, Prog.bind_op, Prog.bind_ret, Prog.pure_eq_ret]
    iterate 6 refine wait_at (sent xv) K 4 (by decide) c (mayWait_none c _) _ (by decide) rfl _ ?_
    exact done c (hQ _)
  refine seq c iprop(env (sent xv) K ∗ waitSt (sent xv) 4 c 0 31 ∗ kZ xv c) (fun Q' hQ => ?_) fun r => ?_
  · rw [k0_part63_eq_skeleton]; unfold k0_part63_skel
    simp only [Prog.lift, semSignalWord, semWaitWord, Prog.bind_op, Prog.bind_ret, Prog.pure_eq_ret]
    iterate 5 refine wait_at (sent xv) K 4 (by decide) c (mayWait_none c _) _ (by decide) rfl _ ?_
    exact done c (hQ _)
  refine seq c iprop(env (sent xv) K ∗ waitSt (sent xv) 1 c 0 5 ∗ kU xv c) (fun Q' hQ => ?_) fun r => ?_
  · rw [k0_part64_eq_skeleton]; unfold k0_part64_skel
    simp only [Prog.lift, semSignalWord, semWaitWord, Prog.bind_op, Prog.bind_ret, Prog.pure_eq_ret]
    refine wait_end (sent xv) K 4 (by decide) c (mayWait_none c _) rfl _ ?_
    refine (turn_write xv K c).trans ?_
    refine step_load c zM (swp (sent xv true) c) zero2 _ .rfl ?_
    refine Entails.trans (Q := iprop(∃ Y, owns (c : Thread nD τ) oM fullShare Y ∗ owns (c : Thread nD τ) zM fullShare (swp (sent xv true) c) ∗ kO xv K c)) (by
      unfold someM; iintro ⟨Hz, ⟨%Y, Ho⟩, Hk⟩; iexists Y; iframe) ?_
    refine exists_elim fun Y => ?_
    refine step_load c oM Y zero2 _ .rfl ?_
    refine step_store c oM Y (result xv c) zero2 _ .rfl ?_
    refine (turn_own xv K c).trans ?_
    iterate 5 refine wait_at (sent xv) K 1 (by decide) c (mayWait_none c _) _ (by decide) rfl _ ?_
    exact done c (hQ _)
  refine seq c iprop(env (sent xv) K ∗ waitSt (sent xv) 1 c 0 13 ∗ kU xv c) (fun Q' hQ => ?_) fun r => ?_
  · rw [k0_part65_eq_skeleton]; unfold k0_part65_skel
    simp only [Prog.lift, semSignalWord, semWaitWord, Prog.bind_op, Prog.bind_ret, Prog.pure_eq_ret]
    iterate 8 refine wait_at (sent xv) K 1 (by decide) c (mayWait_none c _) _ (by decide) rfl _ ?_
    exact done c (hQ _)
  refine seq c iprop(env (sent xv) K ∗ waitSt (sent xv) 1 c 0 20 ∗ kU xv c) (fun Q' hQ => ?_) fun r => ?_
  · rw [k0_part66_eq_skeleton]; unfold k0_part66_skel
    simp only [Prog.lift, semSignalWord, semWaitWord, Prog.bind_op, Prog.bind_ret, Prog.pure_eq_ret]
    iterate 7 refine wait_at (sent xv) K 1 (by decide) c (mayWait_none c _) _ (by decide) rfl _ ?_
    exact done c (hQ _)
  refine seq c iprop(env (sent xv) K ∗ waitSt (sent xv) 1 c 0 28 ∗ kU xv c) (fun Q' hQ => ?_) fun r => ?_
  · rw [k0_part67_eq_skeleton]; unfold k0_part67_skel
    simp only [Prog.lift, semSignalWord, semWaitWord, Prog.bind_op, Prog.bind_ret, Prog.pure_eq_ret]
    iterate 8 refine wait_at (sent xv) K 1 (by decide) c (mayWait_none c _) _ (by decide) rfl _ ?_
    exact done c (hQ _)
  refine seq c iprop(env (sent xv) K ∗ waitSt (sent xv) 3 c 0 3 ∗ kV xv c) (fun Q' hQ => ?_) fun r => ?_
  · rw [k0_part68_eq_skeleton]; unfold k0_part68_skel
    simp only [Prog.lift, semSignalWord, semWaitWord, Prog.bind_op, Prog.bind_ret, Prog.pure_eq_ret]
    iterate 3 refine wait_at (sent xv) K 1 (by decide) c (mayWait_none c _) _ (by decide) rfl _ ?_
    refine wait_end (sent xv) K 1 (by decide) c (mayWait_none c _) rfl _ ?_
    refine (turn_last xv K c).trans ?_
    iterate 3 refine wait_at (sent xv) K 3 (by decide) c (mayWait_none c _) _ (by decide) rfl _ ?_
    exact done c (hQ _)
  refine seq c iprop(env (sent xv) K ∗ waitSt (sent xv) 3 c 0 11 ∗ kV xv c) (fun Q' hQ => ?_) fun r => ?_
  · rw [k0_part69_eq_skeleton]; unfold k0_part69_skel
    simp only [Prog.lift, semSignalWord, semWaitWord, Prog.bind_op, Prog.bind_ret, Prog.pure_eq_ret]
    iterate 8 refine wait_at (sent xv) K 3 (by decide) c (mayWait_none c _) _ (by decide) rfl _ ?_
    exact done c (hQ _)
  refine seq c iprop(env (sent xv) K ∗ waitSt (sent xv) 3 c 0 18 ∗ kV xv c) (fun Q' hQ => ?_) fun r => ?_
  · rw [k0_part70_eq_skeleton]; unfold k0_part70_skel
    simp only [Prog.lift, semSignalWord, semWaitWord, Prog.bind_op, Prog.bind_ret, Prog.pure_eq_ret]
    iterate 7 refine wait_at (sent xv) K 3 (by decide) c (mayWait_none c _) _ (by decide) rfl _ ?_
    exact done c (hQ _)
  refine seq c iprop(env (sent xv) K ∗ waitSt (sent xv) 3 c 0 26 ∗ kV xv c) (fun Q' hQ => ?_) fun r => ?_
  · rw [k0_part71_eq_skeleton]; unfold k0_part71_skel
    simp only [Prog.lift, semSignalWord, semWaitWord, Prog.bind_op, Prog.bind_ret, Prog.pure_eq_ret]
    iterate 8 refine wait_at (sent xv) K 3 (by decide) c (mayWait_none c _) _ (by decide) rfl _ ?_
    exact done c (hQ _)
  simp only [Prog.lift, Prog.bind_op, Prog.bind_ret, Prog.pure_eq_ret]
  iterate 5 refine wait_at (sent xv) K 3 (by decide) c (mayWait_none c _) _ (by decide) rfl _ ?_
  refine wait_end (sent xv) K 3 (by decide) c (mayWait_none c _) rfl _ ?_
  exact done c (turn_end xv K c)

end Cert.SortKernelIdeal

end
-- ==== Proof.SortKernelIdealLaunch.lean ====
/-
The launch: the exchange's cells are opened on every device at once, their tokens handed to the devices that pay with them,
and the one call of the kernel runs with the body of `SortKernelIdealBody`. The end: `run_main`, for any reading of the floats
and any initial memory.
-/
module

public import proofs.«01_k».proof.Proof.SortKernelIdealBody
public import Idealize.ShloMosaic.Lib.Pipeline.CollectiveSegs

@[expose] public section

noncomputable section

namespace Cert.SortKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the call's data are -/

/-- Device `c`'s block of the argument, as the kernel finds it. -/
def xstg (c : Dev nD) : Vec F S256x128 .f32 :=
  (win0_0.blk (0 : Fin 1)).view.read (Elt F) (m ((c : Thread nD τ).loc main_arg0))

section Ghost
variable (xv : Dev nD → Vec F S256x128 .f32) (c : Dev nD)

/-- The positions and the tokens that device `c` starts with. -/
def ghost : sProp 𝕄 :=
  iprop((at0 c 0 ∗ at0 c 1 ∗ at0 c 2 ∗ at0 c 3 ∗ at0 c 4) ∗ sigToks c ∗ toks c false ∗ toks c true)
def start : sProp 𝕄 :=
  iprop((∃ K, records (sent xv) K ∗ ghost c) ∗ (cred (tallyAt (barCell c) () 31) ∗ cr c 2 ∗ cr c 4) ∗ levAts L lv)
def scratch : sProp 𝕄 := iprop(someM tM c ∗ someM wM c ∗ someM zM c)
def Φ₀ : sProp 𝕄 := iprop(start xv c ∗ scratch c)
def Φ₁ : sProp 𝕄 := iprop((zero c 0 ∗ zero c 1 ∗ zero c 2 ∗ zero c 3 ∗ zero c 4) ∗ scratch c)
end Ghost

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => result (xstg m) c
  Φ t := match t with
    | ⟨0, _⟩ => Φ₀ (xstg m) c
    | ⟨_ + 1, _⟩ => Φ₁ c
  q _ := fullShare
  owed t := match t with
    | ⟨0, _⟩ => O₀ c
    | ⟨_ + 1, _⟩ => 0

def t₀ : Fin cfg0.N := t0_0
theorem fin_N (t : Fin cfg0.N) : t = t₀ := fin_N0 t
theorem fetch_in (t : Fin cfg0.N) : (cfg0.win (0 : Fin 2)).fetch t = true := by rw [fin_N t]; rfl
theorem before_in (c : Dev nD) (d : (cfg0.win (0 : Fin 2)).block.Idx → Elt F (cfg0.win (0 : Fin 2)).elt) :
    (dats m 0 c).before (0 : Fin 2) t₀ d = xstg m c := by
  unfold Dat.before; rw [if_pos (fetch_in t₀)]; rfl

/-! ## The body, as the call wants it -/

def bodyPre (c : Dev nD) : sProp 𝕄 :=
  iprop(Φ₀ (xstg m) c ∗ (dats m 0 c).owesAt () t₀.castSucc
    ∗ (∃ d, owns (c : Thread nD τ) xM fullShare ((dats m 0 c).before (0 : Fin 2) t₀ d))
    ∗ (∃ d, owns (c : Thread nD τ) oM fullShare ((dats m 0 c).before (1 : Fin 2) t₀ d)))
def bodyPost (c : Dev nD) : sProp 𝕄 :=
  iprop(Φ₁ c ∗ (dats m 0 c).owesAt () t₀.succ
    ∗ owns (c : Thread nD τ) xM fullShare (xstg m c) ∗ owns (c : Thread nD τ) oM fullShare (result (xstg m) c))

theorem pre_of (c : Dev nD) : bodyPre m c ⊢ iprop(∃ K, env (sent (xstg m)) K ∗ pre (xstg m) c) := by
  unfold bodyPre Φ₀ start ghost scratch Dat.owesAt Pipeline.owesWithin
  iintro ⟨⟨⟨⟨%K, #HR, ⟨Ha, Hs, HtF, HtT⟩⟩, Hc, #HL⟩, Ht, Hw, Hz⟩, ⟨%W, %hW, HO⟩, ⟨%d0, Hx⟩, ⟨%d1, Ho⟩⟩
  rw [show (dats m 0 c).owed t₀.castSucc = O₀ c from rfl, before_in]
  iexists K
  isplitr
  · unfold env; isplitr; · iexact HR
    iexact HL
  unfold pre owesE xAt
  isplitl [HO]; · iexists W; iexact HO
  isplitl [Hs]; · iexact Hs
  isplitl [HtF]; · iexact HtF
  isplitl [HtT]; · iexact HtT
  isplitl [Ha]; · iexact Ha
  isplitl [Hc]; · iexact Hc
  isplitl [Hx]; · iexact Hx
  isplitl [Ho]; · unfold someM; iexists _; iexact Ho
  isplitl [Ht]; · iexact Ht
  isplitl [Hw]; · iexact Hw
  iexact Hz

theorem of_post (c : Dev nD) : post (xstg m) c ⊢ bodyPost m c := by
  unfold bodyPost post Φ₁ scratch owesE xAt Dat.owesAt Pipeline.owesWithin
  iintro ⟨⟨%W, HO⟩, Hz, Hx, Ho, Hs⟩
  rw [show (dats m 0 c).owed t₀.succ = 0 from rfl]
  isplitl [Hz Hs]
  · isplitl [Hz]; · iexact Hz
    iexact Hs
  isplitl [HO]
  · iexists W
    isplitr; · ipureintro; exact fun _ _ => Or.inl trivial
    iexact HO
  isplitl [Hx]; · iexact Hx
  iexact Ho

set_option maxRecDepth 40000 in
theorem body_obligation (c : Dev nD) : BodyObligation (dats (F := F) m 0 c) (defs₀ (F := F)) 𝒱₀ () Set.univ := fun t => by
  rw [fin_N t, bigSep_W0, bigSep_W0]
  show bodyPre m c ⊢ wpc c (cc0_body (F := F) xM (Memref.isWhole_whole _) oM (Memref.isWhole_whole _) tM (Memref.isWhole_whole _)
    wM (Memref.isWhole_whole _) zM (Memref.isWhole_whole _) cc0_scratch3 cc0_scratch4 cc0_scratch5 cc0_scratch6) (fun _ => bodyPost m c)
  iintro H
  ihave H' := (pre_of m c) $$ H
  icases H' with ⟨%K, H⟩
  have hb := (body (xstg m) K c (Memref.isWhole_whole _) (Memref.isWhole_whole _) (Memref.isWhole_whole _) (Memref.isWhole_whole _)
    (Memref.isWhole_whole _)).trans (Idealize.SL.Sem.wp_mono _ _ _ fun _ => of_post m c)
  iapply hb
  iexact H

/-! ## The cells and the tokens -/

/-- The kernel's own four semaphores. -/
abbrev osem : Fin 4 → SemLoc sig :=
  fun | 0 => .dma (sndS false) | 1 => .dma (rcvS false) | 2 => .dma (sndS true) | 3 => .dma (rcvS true)

theorem ownSemFacts : Pipeline.OwnSemFacts cfg0.spec osem := by decide
theorem share_eq (c : Dev nD) (w : Fin cfg0.W) : (dats m 0 c).share w = fullShare := by unfold Dat.share; split <;> rfl

theorem kcell_injective : Function.Injective (kcell : Dev nD × Fin 5 → GSem nD τ sig) := fun a b h =>
  Prod.ext (congrArg (fun g : GSem nD τ sig => g.1.1) h) (csem_injective (congrArg Prod.snd h))

def cells5 : Finset (GSem nD τ sig) := Finset.univ.map ⟨kcell, kcell_injective⟩
/-- One token per cell and device. -/
def toks5 : Finset (GSem nD τ sig × ℕ × Dev nD) :=
  Finset.univ.map ⟨fun x : (Dev nD × Fin 5) × Dev nD => (kcell x.1, 0, x.2), fun x y h =>
    Prod.ext (kcell_injective (congrArg Prod.fst h)) (congrArg (fun z => z.2.2) h)⟩

def u₀ : UU := (initOf (Pipeline.cells cfgs cellOf_inj) (Pipeline.launchToks cfgs cellOf_inj), initOf cells5 toks5)

section Fund
variable (xv : Dev nD → Vec F S256x128 .f32)

def mint (c : Dev nD) : sProp 𝕄 := bigSep Finset.univ fun j : Fin 5 => bigSep Finset.univ fun p : Dev nD => dutyTok ER (kcell (c, j)) 0 p
def pays (c : Dev nD) : sProp 𝕄 := iprop(sigToks c ∗ toks c false ∗ toks c true)
def G (c : Dev nD) : sProp 𝕄 :=
  iprop((bigSep Finset.univ fun j : Fin 5 => roundState ER (sched (sent xv)) (kcell (c, j)) 0)
    ∗ (bigSep Finset.univ fun j : Fin 5 => atPos ER (kcell (c, j)) 0 ∅ 0)
    ∗ (bigSep Finset.univ fun j : Fin 5 => reached ER (kcell (c, j)) 0) ∗ mint c)
def G' (c : Dev nD) : sProp 𝕄 := iprop(∃ K, records (sent xv) K ∗ ghost c)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem over_cells (Φ : GSem nD τ sig → sProp 𝕄) :
    bigSep cells5 Φ = bigSep Finset.univ fun c : Dev nD => bigSep Finset.univ fun j : Fin 5 => Φ (kcell (c, j)) := by
  unfold cells5; rw [bigSep_map, bigSep_univ_prod]; rfl
theorem over_toks : bigSep toks5 (fun x => (dutyTok ER x.1 x.2.1 x.2.2 : sProp 𝕄)) = bigSep Finset.univ fun c : Dev nD => mint c := by
  unfold toks5 mint; rw [bigSep_map, bigSep_univ_prod, bigSep_univ_prod]; rfl

theorem fund_cells : BI.own (ER (initOf cells5 toks5)) ⊢ (|==> bigSep Finset.univ (G xv) : sProp 𝕄) := by
  iintro HX
  imod (Rounds.fund ER (sched (sent xv)) cells5 toks5) $$ HX with H
  imodintro
  rw [over_cells, over_cells, over_cells, over_toks]
  unfold G; simp only [bigSep_sep']
  icases H with ⟨Hst, Hr, Hat, Htok⟩
  isplitl [Hst]; · iexact Hst
  isplitl [Hat]; · iexact Hat
  isplitl [Hr]; · iexact Hr
  iexact Htok

theorem ownSems_eq (c : Dev nD) : (Pipeline.ownSems0 (Ix := Unit) (Name := ℕ) (U := UU) (Lvl := ℕ) (Val := Elt F) (τ := τ) osem c : sProp 𝕄)
    = iprop(zero c 1 ∗ zero c 2 ∗ zero c 3 ∗ zero c 4) := by
  rw [Pipeline.ownSems0_eq_of_list c osem [0, 1, 2, 3] (by decide) (by decide)]; rfl
theorem barSem_eq (c : Dev nD) : (unscopedSems0 c : sProp 𝕄) = zero c 0 := by
  unfold unscopedSems0; rw [bigSep_eq_bigSepL_of_eq [SemLoc.reg barS] (by decide) (by decide)]; rfl

/-- A device's five counters and its part of the launch become its five open cells. -/
theorem core_alloc (c : Dev nD) :
    iprop(Pipeline.ownSems0 (Ix := Unit) (Name := ℕ) (U := UU) (Lvl := ℕ) (Val := Elt F) (τ := τ) osem c ∗ unscopedSems0 c ∗ G xv c)
      ⊢ |={Set.univ}=> iprop((bigSep Finset.univ fun j => iprop(∃ κ : ℕ, cellInv ER (sched (sent xv)) κ (kcell (c, j))))
          ∗ (bigSep Finset.univ fun j : Fin 5 => atPos ER (kcell (c, j)) 0 ∅ 0)
          ∗ (bigSep Finset.univ fun j : Fin 5 => reached ER (kcell (c, j)) 0) ∗ mint c) := by
  have hv : iprop((zero c 1 ∗ zero c 2 ∗ zero c 3 ∗ zero c 4) ∗ zero c 0) ⊢ (bigSep Finset.univ fun j : Fin 5 => zero c j : sProp 𝕄) := by
    rw [bigSep_five]
    iintro ⟨H, H0⟩
    isplitl [H0]; · iexact H0
    iexact H
  have hi : iprop((bigSep Finset.univ fun j : Fin 5 => zero c j) ∗ bigSep Finset.univ fun j : Fin 5 => roundState ER (sched (sent xv)) (kcell (c, j)) 0)
      ⊢ (|={Set.univ}=> bigSep Finset.univ fun j => iprop(∃ κ : ℕ, cellInv ER (sched (sent xv)) κ (kcell (c, j))) : sProp 𝕄) := by
    rw [← bigSep_sep']
    exact (bigSep_mono fun j _ => (Rounds.body_intro ER (sched (sent xv)) (kcell (c, j))).trans inv_alloc).trans (bigSep_fupd _ _)
  unfold G
  rw [ownSems_eq, barSem_eq]
  iintro ⟨Ho, Hb, Hst, Hrest⟩
  imod hi $$ [Ho Hb Hst] with Hinv
  · isplitr [Hst]
    · iapply hv; isplitl [Ho]; · iexact Ho
      iexact Hb
    iexact Hst
  imodintro
  isplitl [Hinv]; · iexact Hinv
  iexact Hrest

/-- Each token to the device that pays with it: the signal's and the arrival's to the sender, the departure's stays. -/
theorem deal : (bigSep Finset.univ fun c : Dev nD => (mint c : sProp 𝕄)) ⊢ bigSep Finset.univ fun c : Dev nD => pays c := by
  have hb : (bigSep Finset.univ fun c : Dev nD => bigSep Finset.univ fun p : Dev nD => (dutyTok ER (kcell (c, 0)) 0 p : sProp 𝕄))
      ⊢ bigSep Finset.univ fun c : Dev nD => sigToks c := by
    rw [bigSep_univ_comm]
    exact bigSep_mono fun c _ => by unfold sigToks; exact bigSep_subset (Finset.erase_subset _ _)
  have hd (b : Bool) : iprop((bigSep Finset.univ fun c : Dev nD => bigSep Finset.univ fun p : Dev nD => dutyTok ER (sndCell b c) 0 p)
        ∗ (bigSep Finset.univ fun c : Dev nD => bigSep Finset.univ fun p : Dev nD => dutyTok ER (rcvCell b c) 0 p))
      ⊢ (bigSep Finset.univ fun c : Dev nD => toks c b : sProp 𝕄) := by
    rw [bigSep_univ_comm (fun c p : Dev nD => (dutyTok ER (rcvCell b c) 0 p : sProp 𝕄)), ← bigSep_sep']
    exact bigSep_mono fun c _ => by unfold toks; rw [bigSep_sep']; exact BI.Entails.refl _
  unfold mint pays
  rw [bigSep_congr fun c _ => bigSep_five _]
  simp only [bigSep_sep']
  iintro ⟨H0, H1, H2, H3, H4⟩
  isplitl [H0]; · iapply hb; iexact H0
  isplitl [H1 H2]
  · iapply (hd false); isplitl [H1]; · iexact H1
    iexact H2
  iapply (hd true); isplitl [H3]; · iexact H3
  iexact H4

theorem regroup :
    (bigSep Finset.univ fun c : Dev nD => iprop((bigSep Finset.univ fun j => iprop(∃ κ : ℕ, cellInv ER (sched (sent xv)) κ (kcell (c, j))))
          ∗ (bigSep Finset.univ fun j : Fin 5 => atPos ER (kcell (c, j)) 0 ∅ 0)
          ∗ (bigSep Finset.univ fun j : Fin 5 => reached ER (kcell (c, j)) 0) ∗ mint c) : sProp 𝕄)
      ⊢ bigSep Finset.univ (G' xv) := by
  simp only [bigSep_sep']
  rw [← bigSep_univ_prod (fun ck : Dev nD × Fin 5 => iprop(∃ κ : ℕ, cellInv ER (sched (sent xv)) κ (kcell ck))),
    ← bigSep_univ_prod (fun ck : Dev nD × Fin 5 => (reached ER (kcell ck) 0 : sProp 𝕄))]
  iintro ⟨HI, Hat, #HR, Htok⟩
  ihave HK := (BI.bigSep_exists_pi Finset.univ (fun (ck : Dev nD × Fin 5) (κ : ℕ) => (cellInv ER (sched (sent xv)) κ (kcell ck) : sProp 𝕄))) $$ HI
  icases HK with ⟨%K, #HI⟩
  ihave Hp := (deal (F := F)) $$ Htok
  have hg (c : Dev nD) : iprop(records (sent xv) K ∗ (bigSep Finset.univ fun j : Fin 5 => atPos ER (kcell (c, j)) 0 ∅ 0) ∗ pays c) ⊢ G' xv c := by
    unfold G' ghost pays
    rw [bigSep_five]
    iintro ⟨HR, Ha, Hp⟩
    iexists K
    isplitl [HR]; · iexact HR
    isplitl [Ha]; · iexact Ha
    iexact Hp
  iapply (bigSep_with_persistent (R := records (sent xv) K) fun c _ => hg c)
  isplitr
  · unfold records; isplitr; · iexact HI
    iexact HR
  rw [bigSep_sep']
  isplitl [Hat]; · iexact Hat
  iexact Hp

theorem glob : (bigSep Finset.univ fun c => iprop(Pipeline.ownSems0 (Ix := Unit) (Name := ℕ) (U := UU) (Lvl := ℕ) (Val := Elt F) (τ := τ) osem c ∗ unscopedSems0 c ∗ G xv c) : sProp 𝕄)
    ⊢ |={Set.univ}=> bigSep Finset.univ (G' xv) :=
  ((bigSep_mono fun c _ => core_alloc xv c).trans (bigSep_fupd _ _)).trans (BI.fupd_mono (regroup xv))

end Fund

/-! ## The credit that all devices' debts make -/

theorem sum_at {S : Finset (Dev nD)} {f : Dev nD → GSem nD τ sig} (hf : Function.Injective f) (k : ℕ) (c : Dev nD) :
    (∑ q ∈ S, (tallyAt (f q) () k : CellTallies nD τ sig Unit)) (f c) () = if c ∈ S then k else 0 := by
  rw [Finset.sum_apply, Finsupp.finset_sum_apply, ← Finset.sum_ite_eq S c fun _ => k]
  refine Finset.sum_congr rfl fun q _ => ?_
  rw [tallyAt_apply]
  by_cases h : c = q
  · subst h; rw [if_pos ⟨rfl, rfl⟩, if_pos rfl]
  · rw [if_neg fun h' => h (hf h'.1), if_neg h]

theorem cell_inj (sm : SemLoc sig) : Function.Injective fun c : Dev nD => (((c : Thread nD τ), sm) : GSem nD τ sig) :=
  fun a b h => congrArg (fun g : GSem nD τ sig => g.1.1) h

theorem OB_zero {S : Finset (Dev nD)} {c : Dev nD} {sm : SemLoc sig} (h : sm ≠ .reg barS) : OB S ((c : Thread nD τ), sm) () = 0 := by
  by_contra hn
  obtain ⟨q, hq⟩ := OB_pos (Nat.pos_of_ne_zero hn)
  exact h (congrArg Prod.snd hq)
theorem OR_zero {b : Bool} {S : Finset (Dev nD)} {c : Dev nD} {sm : SemLoc sig} (h : sm ≠ .dma (rcvS b)) : OR b S ((c : Thread nD τ), sm) () = 0 := by
  by_contra hn
  obtain ⟨q, hq⟩ := OR_pos (Nat.pos_of_ne_zero hn)
  exact h (congrArg Prod.snd hq)
theorem OR_at (b : Bool) (c : Dev nD) : OR b Finset.univ (rcvCell b c) () = N :=
  (sum_at (cell_inj (.dma (rcvS b))) N c).trans (if_pos (Finset.mem_univ _))

theorem owed_at (d c : Dev nD) (sm : SemLoc sig) : O₀ d ((c : Thread nD τ), sm) ()
    = OB (Finset.univ.erase d) ((c : Thread nD τ), sm) () + (OR false Finset.univ ((c : Thread nD τ), sm) () + OR true Finset.univ ((c : Thread nD τ), sm) ()) := by
  unfold O₀; rw [Pi.add_apply, Finsupp.add_apply, Pi.add_apply, Finsupp.add_apply]

theorem owed_bar (d c : Dev nD) : O₀ d (barCell c) () = if c ∈ Finset.univ.erase d then 1 else 0 := by
  rw [owed_at, OR_zero (rcv_ne_bar false).symm, OR_zero (rcv_ne_bar true).symm]
  exact sum_at (cell_inj (.reg barS)) 1 c
theorem owed_rcv (b : Bool) (d c : Dev nD) : O₀ d (rcvCell b c) () = N := by
  rw [owed_at, OB_zero (rcv_ne_bar b)]
  cases b
  · rw [OR_at false, OR_zero rcv_ft, Nat.zero_add, Nat.add_zero]
  · rw [OR_at true, OR_zero rcv_tf, Nat.zero_add, Nat.zero_add]

theorem sum_bar (c : Dev nD) : ∑ d : Dev nD, (if c ∈ Finset.univ.erase d then 1 else 0) = 31 := by revert c; decide

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_bar]
theorem launch_rcv (b : Bool) (c : Dev nD) :
    tallyOn (rcvCell b c) (launchCredit (Pipeline.owing O₀) 0 (rcvCell b c)) = (tallyAt (rcvCell b c) () (32 * N) : CellTallies nD τ sig Unit) := by
  unfold tallyAt; refine congrArg _ (Finsupp.ext fun u => ?_); cases u
  rw [Pipeline.launchCredit_owing, Finsupp.single_eq_same, Finset.sum_congr rfl fun d _ => owed_rcv b d c, Finset.sum_const]
  rfl

theorem creds (c : Dev nD) :
    (Pipeline.launchCred O₀ c : sProp 𝕄) ⊢ iprop(cred (tallyAt (barCell c) () 31) ∗ cr c 2 ∗ cr c 4) := by
  unfold Pipeline.launchCred cr
  rw [bigSep_univ_at _ (SemLoc.reg barS), launch_bar]
  refine sep_mono_right ?_
  have hs : ({.dma (rcvS false), .dma (rcvS true)} : Finset (SemLoc sig)) ⊆ Finset.univ.erase (.reg barS) := by
    intro x hx
    rcases Finset.mem_insert.mp hx with rfl | hx
    · exact Finset.mem_erase.mpr ⟨rcv_ne_bar _, Finset.mem_univ _⟩
    · rw [Finset.mem_singleton.mp hx]; exact Finset.mem_erase.mpr ⟨rcv_ne_bar _, Finset.mem_univ _⟩
  refine (bigSep_subset hs).trans ?_
  rw [bigSep_insert (fun h => rcv_ft (Finset.mem_singleton.mp h)), bigSep_singleton, launch_rcv false, launch_rcv true]
  exact BI.Entails.refl _

/-! ## Into the call and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) c)
      ⊢ |={Set.univ}=> iprop(start (xstg m) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (Pipeline.scopedRest cfg0.spec c : sProp 𝕄) = scratch c := by
  rw [scopedRest0_eq]; unfold scratch someM
  simp only [owns_whole]
  rfl

theorem phi0_intro (c : Dev nD) :
    iprop(start (xstg m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (xstg m) c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, ownSems_eq, barSem_eq]
  unfold Φ₁
  iintro ⟨⟨H0, Hz⟩, Hr⟩
  isplitl [H0]; · iexact H0
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- What window `w`'s array holds on device `c` at the end. -/
def finalA (c : Dev nD) (w : Fin cfg0.W) : Buf (Elt F) ((cfg0.win w).arr.view.loc (c : Thread nD τ)) := (dats m 0 c).arrAt w cfg0.N

set_option maxRecDepth 40000 in
/-- Every fair run on the 32 devices ends, with each device's arrays at `finalA` and every counter at zero. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m)) (G' := G' (xstg m)) (u₀ := u₀)
    (hu₀ := by
      unfold u₀
      iintro Hu
      ihave H := (ownU_pair _ _) $$ Hu
      icases H with ⟨HP, HX⟩
      imod (fund_cells (xstg m)) $$ HX with HG
      imodintro
      isplitl [HP] <;> iassumption)
    (hglob := glob (xstg m))
    (hA := fun _ _ => rfl) (hpf := fun _ k => k.elim0)
    (X := start (xstg m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem read_in (c : Dev nD) (f : Buf (Elt F) ((c : Thread nD τ).loc main_arg0)) :
    ((win0_0.blk (0 : Fin 1)).view.read (Elt F) f : S256x128.Idx → Elt F .f32) = f :=
  funext fun i => congrArg f (funext fun a => Fin.ext (by
    show 0 * _ + 1 * (i a).val = (i a).val
    rw [Nat.zero_mul, Nat.zero_add, Nat.one_mul]))
theorem read_out (c : Dev nD) (f : Buf (Elt F) ((c : Thread nD τ).loc main_v1)) :
    ((win0_1.blk (0 : Fin 1)).view.read (Elt F) f : S256x128.Idx → Elt F .f32) = f :=
  funext fun i => congrArg f (funext fun a => Fin.ext (by
    show 0 * _ + 1 * (i a).val = (i a).val
    rw [Nat.zero_mul, Nat.zero_add, Nat.one_mul]))

/-- The argument's array is what it was. -/
theorem finalA_x (c : Dev nD) : finalA m c (0 : Fin 2) = m ((c : Thread nD τ).loc main_arg0) :=
  (dats (F := F) m 0 c).arrAt_in (0 : Fin 2) rfl _
/-- The result's array is its one block, the whole of it. -/
theorem finalA_o (c : Dev nD) : (finalA m c (1 : Fin 2) : S256x128.Idx → Elt F .f32) = result (xstg m) c := by
  have h : (win0_1.blk (0 : Fin 1)).view.read (Elt F) (finalA m c (1 : Fin 2)) = result (xstg m) c := by
    unfold finalA
    rw [show cfg0.N = t₀.val + 1 from rfl, (dats m 0 c).arrAt_succ (1 : Fin 2) t₀,
      if_pos (show (cfg0.win (1 : Fin 2)).flush t₀ = true from rfl)]
    exact View.read_write_univ _ _
  rw [← h]; exact (read_out c _).symm
/-- The block as the kernel finds it is the argument's array. -/
theorem xstg_eq : xstg m = fun c : Dev nD => (m ((c : Thread nD τ).loc main_arg0) : S256x128.Idx → Elt F .f32) :=
  funext fun c => by unfold xstg; exact read_in c _

/-- The run with its values: the argument unchanged, the result `result` of all devices' arguments, the counters at zero. -/
theorem run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ (r.2.mem ((c.tc : Thread nD τ).loc main_v1) : S256x128.Idx → Elt F .f32)
          = result (fun p : Dev nD => (m ((p.tc : Thread nD τ).loc main_arg0) : S256x128.Idx → Elt F .f32)) c)
    ∧ r.2.sem = fun _ => 0) :=
  (θ_run defs _ _).mono (fun _ h => ⟨fun c => ⟨(h.1 c (0 : Fin 2)).trans (finalA_x m c),
    (h.1 c (1 : Fin 2)).trans ((finalA_o m c).trans (by rw [xstg_eq]))⟩, h.2⟩) (run_main m ρ)

end Cert.SortKernelIdeal

end
-- ==== Proof.SortOrder.lean ====
/-
Sorting in the abstract, as the value claim of this certificate needs it: what one stage of the bitonic network leaves at each
position, in the form in which the kernel selects it; the whole network as its stages in order; and that the network and a stable
sort by `<` leave the same values, because both leave a rearrangement in ascending order.
-/
module

public import Idealize.ShloMosaic.Lib.SortNet.Sorts
public import Idealize.ShloMosaic.Lib.SortNet.Printed
public import Idealize.ShloMosaic.Lib.SortFacts
public import Idealize.ShloMosaic.Lib.SortNet.HostSort

@[expose] public section

namespace Cert.SortOrder

open Idealize.ShloMosaic Idealize.ShloMosaic.SortNet

variable {α : Type} [LinearOrder α]

/-- The direction of block length `2 ^ (l + 1)` in an ascending sort: the greater entry goes low where that bit is set. -/
def dir (p l : ℕ) (i : Fin (2 ^ p)) : Bool := decide (i.val &&& 2 ^ (l + 1) = 0) == false

/-- One stage at any position: the lesser of the entry and its partner where the block's direction and the side of the pair agree,
    else the greater. -/
theorem stage_apply {p l q : ℕ} (hq : q < p) (hql : q ≤ l) (v : Fin (2 ^ p) → α) (i : Fin (2 ^ p)) :
    Network.apply (stage p q (dir p l)) v i
      = if decide (i.val &&& 2 ^ (l + 1) = 0) = decide (i.val &&& 2 ^ q = 0) then min (v i) (v (partner p q i))
        else max (v i) (v (partner p q i)) := by
  by_cases hi : i.val &&& 2 ^ q = 0
  · rw [(apply_stage hq (dir p l) v i hi).1]
    unfold dir
    cases h : decide (i.val &&& 2 ^ (l + 1) = 0) <;> simp [hi]
  · have e := (apply_stage hq (dir p l) v (partner p q i) (partner_and_of_set hq i hi)).2
    rw [partner_partner hq] at e
    rw [e, show dir p l (partner p q i) = dir p l i from sizeClear_partner hq hql false i, min_comm, max_comm]
    unfold dir
    cases h : decide (i.val &&& 2 ^ (l + 1) = 0) <;> simp [hi]

/-- The networks of a list, one after another. -/
theorem apply_flatMap {ι : Type} {n : ℕ} (f : ι → Network n) (L : List ι) (v : Fin n → α) :
    Network.apply (L.flatMap f) v = L.foldl (fun v a => Network.apply (f a) v) v := by
  induction L generalizing v with
  | nil => rfl
  | cons a L ih => rw [List.flatMap_cons, Network.apply_append, ih, List.foldl_cons]

/-- The ascending sort as its stages in order. -/
theorem sort_stages (p : ℕ) (v : Fin (2 ^ p) → α) :
    Network.apply (sortNet p false) v
      = ((List.range p).flatMap fun l => (List.range (l + 1)).reverse.map fun q => (l, q)).foldl
          (fun v a => Network.apply (stage p a.2 (dir p a.1)) v) v := by
  rw [← apply_flatMap (fun a : ℕ × ℕ => stage p a.2 (dir p a.1)), List.flatMap_assoc]
  refine congrArg (fun N => Network.apply N v) (List.flatMap_congr fun l _ => ?_)
  rw [List.flatMap_map]
  rfl

/-- A stable sort by `<` leaves the values in ascending order. -/
theorem sortedFrom_monotone {n : ℕ} (f : Fin n → α) :
    Monotone (fun k => f (sortedFrom (fun a b => decide (f a < f b)) k)) := by
  intro i j hij
  rcases hij.lt_or_eq with h | rfl
  · have := sortedFrom_noInversion (fun a b => decide (f a < f b)) (fun a b => decide (f a < f b))
      (fun a b h => decide_eq_false (not_lt.2 (of_decide_eq_true h).le)) (fun _ _ h => h)
      (fun a b c h h' => decide_eq_false (not_lt.2 (le_trans (not_lt.1 (of_decide_eq_false h')) (not_lt.1 (of_decide_eq_false h))))) i j h
    exact not_lt.1 (of_decide_eq_false this)
  · exact le_refl _

/-- Two ascending rearrangements of one family are equal. -/
theorem ascending_unique {n : ℕ} (f : Fin n → α) (σ τ : Equiv.Perm (Fin n)) (hσ : Monotone (f ∘ σ)) (hτ : Monotone (f ∘ τ)) :
    f ∘ σ = f ∘ τ := by
  have h : List.ofFn (f ∘ σ) = List.ofFn (f ∘ τ) :=
    List.Perm.eq_of_pairwise (le := (· ≤ ·)) (fun a b _ _ => le_antisymm)
      (List.pairwise_ofFn.2 fun i j hij => hσ hij.le) (List.pairwise_ofFn.2 fun i j hij => hτ hij.le)
      ((Equiv.Perm.ofFn_comp_perm σ f).trans (Equiv.Perm.ofFn_comp_perm τ f).symm)
  exact List.ofFn_injective h

/-- The network and the stable sort leave the same values. -/
theorem net_eq_sorted (p : ℕ) (f : Fin (2 ^ p) → α) (k : Fin (2 ^ p)) :
    Network.apply (sortNet p false) f k = f (sortedFrom (fun a b => decide (f a < f b)) k) := by
  obtain ⟨σ, hσ⟩ := Network.exists_perm (sortNet p false) f
  have h1 : Monotone (f ∘ σ) := hσ ▸ sortNet_apply_monotone p f
  have h2 : Monotone (f ∘ Equiv.ofBijective (sortedFrom (fun a b => decide (f a < f b)))
      ⟨sortedFrom_injective _, sortedFrom_surjective _⟩) := sortedFrom_monotone f
  rw [hσ]
  exact congrFun (ascending_unique f σ _ h1 h2) k

end Cert.SortOrder
-- ==== Proof.SortStages.lean ====
/-
What the kernel's stages do to one column. Four rows of the buffer, `4 * p + r` for a fixed `r < 4`, hold one column of the array,
element `256 * p + l` at lane `l` of row `4 * p + r`. Read so, each rotation and select of the kernel is the exchange of a stage of
the bitonic network with its partner, and all 91 together are the ascending sort.
-/
module

public import proofs.«01_k».proof.Proof.SortKernelIdealNet
public import proofs.«01_k».proof.Proof.SortOrder
public import Idealize.ShloMosaic.Lib.Pointwise.Index

@[expose] public section

noncomputable section

namespace Cert.SortStages

open Cert.KernelIdeal Cert.KernelIdeal.Gen Cert.SortKernelIdeal Cert.SortOrder
open Idealize.ShloMosaic Idealize.ShloMosaic.SortNet

/-! ## The rotations at an element -/

section Rotations

variable {F : FTy → Type} [FloatOps F] (V : Vec F S128x256 .f32) (a : Fin 128) (b : Fin 256)

theorem cut1_apply (o n : ℕ) (h : o + n ≤ 256) (b : Fin n) :
    cut1 o n V h (ix2 a b) = V (ix2 a ⟨o + b.val, by omega⟩) :=
  extractStridedSlice_apply _ _ _ _ _ fun d => by
    match d with
    | ⟨0, _⟩ => exact (Nat.zero_add _).symm
    | ⟨1, _⟩ => rfl

theorem cut0_apply (o m : ℕ) (h : o + m ≤ 128) (a : Fin m) :
    cut0 o m V h (ix2 a b) = V (ix2 ⟨o + a.val, by omega⟩ b) :=
  extractStridedSlice_apply _ _ _ _ _ fun d => by
    match d with
    | ⟨0, _⟩ => rfl
    | ⟨1, _⟩ => exact (Nat.zero_add _).symm

/-- Two blocks of lanes side by side. -/
theorem lanes_apply (m n : ℕ) (h : m + n = 256) (x : FVec F (SB 128 m) .f32) (y : FVec F (SB 128 n) .f32) :
    concatenate S128x256 1 [⟨SB 128 m, x⟩, ⟨SB 128 n, y⟩] (concats1 m n h) (ix2 a b)
      = if hb : b.val < m then x (ix2 a ⟨b.val, hb⟩) else y (ix2 a ⟨b.val - m, by omega⟩) := by
  split
  next hb =>
    exact concatenate_pair_apply_left (t := S128x256) 1 x y _ _ rfl _ fun d => by
      match d with
      | ⟨0, _⟩ => rfl
      | ⟨1, _⟩ => rfl
  next hb =>
    refine concatenate_pair_apply_right (t := S128x256) 1 x y _ _ rfl rfl _ (fun d hd => ?_) ?_
    · match d, hd with
      | ⟨0, _⟩, _ => rfl
      | ⟨1, _⟩, hd => exact absurd rfl hd
    · show b.val - m + m = b.val
      omega

/-- Two blocks of rows, one above the other. -/
theorem rows_apply (m n : ℕ) (h : m + n = 128) (x : FVec F (SB m 256) .f32) (y : FVec F (SB n 256) .f32) :
    concatenate S128x256 0 [⟨SB m 256, x⟩, ⟨SB n 256, y⟩] (concats0 m n h) (ix2 a b)
      = if ha : a.val < m then x (ix2 ⟨a.val, ha⟩ b) else y (ix2 ⟨a.val - m, by omega⟩ b) := by
  split
  next ha =>
    exact concatenate_pair_apply_left (t := S128x256) 0 x y _ _ rfl _ fun d => by
      match d with
      | ⟨0, _⟩ => rfl
      | ⟨1, _⟩ => rfl
  next ha =>
    refine concatenate_pair_apply_right (t := S128x256) 0 x y _ _ rfl rfl _ (fun d hd => ?_) ?_
    · match d, hd with
      | ⟨0, _⟩, hd => exact absurd rfl hd
      | ⟨1, _⟩, _ => rfl
    · show a.val - m + m = a.val
      omega

theorem up1_apply (j : ℕ) (h : j ≤ 256) (b' : Fin 256) (hb : b'.val = b.val + j) : up1 j V h (ix2 a b) = V (ix2 a b') := by
  have hb' := b'.isLt
  unfold up1
  rw [lanes_apply a b (256 - j) j (by omega), dif_pos (show b.val < 256 - j by omega), cut1_apply]
  exact congrArg (fun t => V (ix2 a t)) (Fin.ext (by show j + b.val = b'.val; omega))

theorem dn1_apply (j : ℕ) (h : j ≤ 256) (b' : Fin 256) (hb : b.val = b'.val + j) : dn1 j V h (ix2 a b) = V (ix2 a b') := by
  unfold dn1
  rw [lanes_apply a b j (256 - j) (by omega), dif_neg (show ¬ b.val < j by omega), cut1_apply]
  exact congrArg (fun t => V (ix2 a t)) (Fin.ext (by show 0 + (b.val - j) = b'.val; omega))

theorem up0_apply (r : ℕ) (h : r ≤ 128) (a' : Fin 128) (ha : a'.val = a.val + r) : up0 r V h (ix2 a b) = V (ix2 a' b) := by
  have ha' := a'.isLt
  unfold up0
  rw [rows_apply a b (128 - r) r (by omega), dif_pos (show a.val < 128 - r by omega), cut0_apply]
  exact congrArg (fun t => V (ix2 t b)) (Fin.ext (by show r + a.val = a'.val; omega))

theorem dn0_apply (r : ℕ) (h : r ≤ 128) (a' : Fin 128) (ha : a.val = a'.val + r) : dn0 r V h (ix2 a b) = V (ix2 a' b) := by
  unfold dn0
  rw [rows_apply a b r (128 - r) (by omega), dif_neg (show ¬ a.val < r by omega), cut0_apply]
  exact congrArg (fun t => V (ix2 t b)) (Fin.ext (by show 0 + (a.val - r) = a'.val; omega))

end Rotations

/-! ## The element numbers and the masks -/

/-- The number of the first element of a row, as the kernel computes it: the row divided by four, rounded down, times 256. -/
theorem number_first : ∀ a : Fin 128, k0_pay2 (ix2 a (0 : Fin 256)) = BitVec.ofNat 32 (a.val / 4 * 256) := by decide

/-- The number of the element at row `a`, lane `b`. -/
theorem number (a : Fin 128) (b : Fin 256) : k0_pay2 (ix2 a b) = BitVec.ofNat 32 (a.val / 4 * 256 + b.val) := by
  have h : k0_pay2 (ix2 a b) = k0_pay2 (ix2 a (0 : Fin 256)) + BitVec.ofNat 32 b.val := by
    show _ + BitVec.ofNat 32 (0 * 256 + b.val) = _ + BitVec.ofNat 32 (0 * 256 + 0) + BitVec.ofNat 32 b.val
    rw [Nat.zero_mul, Nat.zero_add, BitVec.add_zero]
    rfl
  rw [h, number_first, BitVec.ofNat_add]

/-- Where element `i` of column `r` lies. -/
def place (r : Fin 4) (i : Fin (2 ^ 13)) : S128x256.Idx :=
  ix2 (n0 := 128) (n1 := 256) ⟨4 * (i.val / 256) + r.val, by have := i.isLt; have := r.isLt; omega⟩ ⟨i.val % 256, Nat.mod_lt _ (by decide)⟩

theorem number_place (r : Fin 4) (i : Fin (2 ^ 13)) : k0_pay2 (place r i) = BitVec.ofNat 32 i.val := by
  unfold place
  rw [number]
  refine congrArg (BitVec.ofNat 32) ?_
  have := r.isLt
  show (4 * (i.val / 256) + r.val) / 4 * 256 + i.val % 256 = i.val
  omega

theorem mask_place (r : Fin 4) (i : Fin (2 ^ 13)) (q : ℕ) (hq : q ≤ 13) :
    ms k0_pay2 (2 ^ q) (place r i) = BitVec.ofBool (decide (i.val &&& 2 ^ q = 0)) := by
  have hi : i.val < 2 ^ 32 := lt_of_lt_of_le i.isLt (by decide)
  show BitVec.ofBool (IntOp.andi (k0_pay2 (place r i)) (BitVec.ofNat 32 (2 ^ q)) == 0#32) = _
  rw [number_place]
  congr 1
  rw [Bool.eq_iff_iff, beq_iff_eq, decide_eq_true_eq, and_distance_eq_zero_iff hi]
  rw [BitVec.toNat_ofNat, Nat.mod_eq_of_lt (Nat.pow_lt_pow_right (by decide) (by omega))]

/-! ## One stage on a column -/

/-- Column `r` of a buffer. -/
def column (r : Fin 4) (V : FVec Ideal S128x256 .f32) (i : Fin (2 ^ 13)) : EReal := V (place r i)

/-- A bit as a remainder. -/
theorem bit_clear (i q : ℕ) : i &&& 2 ^ q = 0 ↔ i / 2 ^ q % 2 = 0 := by
  rw [and_two_pow_eq_zero_iff_testBit, Nat.testBit_eq_decide_div_mod_eq, decide_eq_false_iff_not]
  omega

/-- The select of the kernel, once its two masks are known and the rotations bring the partner. -/
theorem exchange (mk mj : IVec S128x256 1) (V U D : FVec Ideal S128x256 .f32) (j : S128x256.Idx) (x y : Bool) (w : EReal)
    (hk : mk j = BitVec.ofBool x) (hj : mj j = BitVec.ofBool y) (hU : y = true → U j = w) (hD : y = false → D j = w) :
    (cmb mk mj V U D j : EReal) = if x = y then min (V j : EReal) w else max (V j : EReal) w := by
  have hw : select mj U D j = w := by
    show Scalar.select (mj j) (U j) (D j) = w
    rw [hj, select_ofBool]
    cases y
    · exact hD rfl
    · exact hU rfl
  show Scalar.select (IntOp.xori (IntOp.xori (mk j) (mj j)) 1#1) (min (V j : EReal) (select mj U D j)) (max (V j : EReal) (select mj U D j)) = _
  rw [hw, hk, hj, ofBool_xor_xor_one, select_ofBool]
  simp only [decide_eq_true_eq]

/-- Adding a bit below 256 that is clear stays in the row. -/
theorem add_low (i q : ℕ) (hq : q ≤ 7) (h : i / 2 ^ q % 2 = 0) :
    (i + 2 ^ q) / 256 = i / 256 ∧ (i + 2 ^ q) % 256 = i % 256 + 2 ^ q := by
  interval_cases q <;> simp only [Nat.reducePow] at * <;> omega

/-- Taking away a bit below 256 that is set stays in the row. -/
theorem sub_low (i q : ℕ) (hq : q ≤ 7) (h : i / 2 ^ q % 2 ≠ 0) :
    (i - 2 ^ q) / 256 = i / 256 ∧ i % 256 = (i - 2 ^ q) % 256 + 2 ^ q := by
  interval_cases q <;> simp only [Nat.reducePow] at * <;> omega

/-- Adding a bit from 256 on stays in the lane. -/
theorem add_high (i q : ℕ) (hq : 7 < q) (hq' : q < 13) :
    4 * ((i + 2 ^ q) / 256) = 4 * (i / 256) + 2 ^ (q - 6) ∧ (i + 2 ^ q) % 256 = i % 256 := by
  interval_cases q <;> simp only [Nat.reducePow, Nat.reduceSub] at * <;> omega

/-- Taking away a bit from 256 on that is set stays in the lane. -/
theorem sub_high (i q : ℕ) (hq : 7 < q) (hq' : q < 13) (h : i / 2 ^ q % 2 ≠ 0) :
    4 * (i / 256) = 4 * ((i - 2 ^ q) / 256) + 2 ^ (q - 6) ∧ (i - 2 ^ q) % 256 = i % 256 := by
  interval_cases q <;> simp only [Nat.reducePow, Nat.reduceSub] at * <;> omega

theorem column_lanes (r : Fin 4) (l q : ℕ) (hl : l < 13) (hql : q ≤ l) (hq : q ≤ 7) (h : 2 ^ q ≤ 256) (V : FVec Ideal S128x256 .f32) :
    column r (ln k0_pay2 (2 ^ (l + 1)) (2 ^ q) V h) = Network.apply (stage 13 q (dir 13 l)) (column r V) := by
  have hq' : q < 13 := by omega
  funext i
  rw [stage_apply hq' hql]
  refine exchange _ _ _ _ _ _ _ _ (column r V (partner 13 q i)) (mask_place r i (l + 1) (by omega)) (mask_place r i q (by omega))
    (fun hy => ?_) (fun hy => ?_)
  · have hy := of_decide_eq_true hy
    have hp := partner_val_of_clear hq' i hy
    obtain ⟨h1, h2⟩ := add_low i.val q hq ((bit_clear _ _).1 hy)
    rw [← hp] at h1 h2
    refine (up1_apply (F := Ideal) V _ _ _ _ ⟨(partner 13 q i).val % 256, Nat.mod_lt _ (by decide)⟩ ?_).trans ?_
    · exact h2
    exact congrArg (fun t => V (ix2 t _)) (Fin.ext (by show 4 * (i.val / 256) + r.val = 4 * ((partner 13 q i).val / 256) + r.val; rw [h1]))
  · have hy := of_decide_eq_false hy
    have hp := (partner_val_of_set hq' i hy).2
    obtain ⟨h1, h2⟩ := sub_low i.val q hq (fun e => hy ((bit_clear _ _).2 e))
    rw [← hp] at h1 h2
    refine (dn1_apply (F := Ideal) V _ _ _ _ ⟨(partner 13 q i).val % 256, Nat.mod_lt _ (by decide)⟩ ?_).trans ?_
    · exact h2
    exact congrArg (fun t => V (ix2 t _)) (Fin.ext (by show 4 * (i.val / 256) + r.val = 4 * ((partner 13 q i).val / 256) + r.val; rw [h1]))

theorem column_rows (r : Fin 4) (l q : ℕ) (hl : l < 13) (hql : q ≤ l) (hq : 7 < q) (h : 2 ^ (q - 6) ≤ 128) (V : FVec Ideal S128x256 .f32) :
    column r (rw k0_pay2 (2 ^ (l + 1)) (2 ^ (q - 6)) V h) = Network.apply (stage 13 q (dir 13 l)) (column r V) := by
  have hq' : q < 13 := by omega
  have h64 : 64 * 2 ^ (q - 6) = 2 ^ q := by
    rw [show (64 : ℕ) = 2 ^ 6 from rfl, ← Nat.pow_add, show 6 + (q - 6) = q by omega]
  funext i
  rw [stage_apply hq' hql]
  refine exchange _ _ _ _ _ _ _ _ (column r V (partner 13 q i)) (mask_place r i (l + 1) (by omega))
    (by rw [h64]; exact mask_place r i q (by omega)) (fun hy => ?_) (fun hy => ?_)
  · have hy := of_decide_eq_true hy
    have hp := partner_val_of_clear hq' i hy
    obtain ⟨h1, h2⟩ := add_high i.val q hq hq'
    rw [← hp] at h1 h2
    have hlt := (partner 13 q i).isLt
    have hr := r.isLt
    refine (up0_apply (F := Ideal) V _ _ _ _ ⟨4 * ((partner 13 q i).val / 256) + r.val, by omega⟩ ?_).trans ?_
    · show 4 * ((partner 13 q i).val / 256) + r.val = 4 * (i.val / 256) + r.val + 2 ^ (q - 6)
      omega
    exact congrArg (fun t => V (ix2 _ t)) (Fin.ext h2.symm)
  · have hy := of_decide_eq_false hy
    have hp := (partner_val_of_set hq' i hy).2
    obtain ⟨h1, h2⟩ := sub_high i.val q hq hq' (fun e => hy ((bit_clear _ _).2 e))
    rw [← hp] at h1 h2
    have hlt := (partner 13 q i).isLt
    have hr := r.isLt
    refine (dn0_apply (F := Ideal) V _ _ _ _ ⟨4 * ((partner 13 q i).val / 256) + r.val, by omega⟩ ?_).trans ?_
    · show 4 * (i.val / 256) + r.val = 4 * ((partner 13 q i).val / 256) + r.val + 2 ^ (q - 6)
      omega
    exact congrArg (fun t => V (ix2 _ t)) (Fin.ext h2.symm)

/-- One stage of the kernel on a column is the network's stage. -/
theorem column_stage (r : Fin 4) (l q : ℕ) (hl : l < 13) (hql : q ≤ l) (V : FVec Ideal S128x256 .f32) :
    column r (st k0_pay2 l q V) = Network.apply (stage 13 q (dir 13 l)) (column r V) := by
  unfold st
  split
  next h => exact column_lanes r l q hl hql h _ V
  next h => rw [dif_pos (show q ≤ 13 by omega)]; exact column_rows r l q hl hql (by omega) _ V

/-- Stages in a list, on a column. -/
theorem column_foldl (r : Fin 4) (L : List (ℕ × ℕ)) (hL : ∀ a ∈ L, a.1 < 13 ∧ a.2 ≤ a.1) (V : FVec Ideal S128x256 .f32) :
    column r (L.foldl (fun V a => st k0_pay2 a.1 a.2 V) V)
      = L.foldl (fun v a => Network.apply (stage 13 a.2 (dir 13 a.1)) v) (column r V) := by
  induction L generalizing V with
  | nil => rfl
  | cons a L ih =>
    obtain ⟨h1, h2⟩ := hL a (List.mem_cons_self ..)
    rw [List.foldl_cons, List.foldl_cons, ih (fun b hb => hL b (List.mem_cons_of_mem _ hb)), column_stage r a.1 a.2 h1 h2]

theorem mem_stages (a : ℕ × ℕ) (ha : a ∈ stages) : a.1 < 13 ∧ a.2 ≤ a.1 := by
  obtain ⟨l, hl, ha⟩ := List.mem_flatMap.1 ha
  obtain ⟨q, hq, rfl⟩ := List.mem_map.1 ha
  have hl := List.mem_range.1 hl
  have hq := List.mem_range.1 (List.mem_reverse.1 hq)
  exact ⟨hl, by show q ≤ l; omega⟩

/-- The kernel's network sorts each column. -/
theorem column_net (r : Fin 4) (V : FVec Ideal S128x256 .f32) :
    column r (net k0_pay2 V) = Network.apply (sortNet 13 false) (column r V) := by
  rw [sort_stages]
  exact column_foldl r stages mem_stages V

end Cert.SortStages

end
-- ==== Proof.SortValue.lean ====
/-
The value of the kernel at exact floats: device `c` ends with block `c` of the whole array sorted along its first axis. Device `q`
gathers columns `4 * q … 4 * q + 3`, sorts each by the network, and the devices exchange the sorted pieces back.
-/
module

public import proofs.«01_k».proof.Proof.SortStages
public import proofs.«01_k».proof.Proof.SortKernelIdealTurns
public import proofs.«01_k».proof.Proof.Gen.ReferenceIdeal
public import Idealize.ShloMosaic.Lib.ValueLayout

@[expose] public section

noncomputable section

namespace Cert.SortValue

open Cert.KernelIdeal Cert.KernelIdeal.Gen Cert.SortKernelIdeal Cert.SortOrder Cert.SortStages
open Idealize.ShloMosaic Idealize.ShloMosaic.SortNet

/-- The whole array's shape. -/
abbrev SX : Shape := ⟨2, ![8192, 128]⟩

/-- The reference's comparison is `<`: it sends zero to zero, and no exact value differs from itself. -/
theorem comparator_lt (a b : EReal) :
    ((Cert.ReferenceIdeal.comparator_f32_d0 (F := Ideal) a b) == 1#1) = decide (a < b) := by
  have h0 : (FloatOps.ofBits (F := Ideal) .f32 0x00000000#32 : EReal) = 0 := Ideal.ofBits_zero_f32
  have key : ∀ a : EReal, (Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a) : EReal) = a := by
    intro a
    rw [Ideal.cmpf_def, Ideal.cmpf_def]
    show (Scalar.select (BitVec.ofBool (decide (a ≠ a))) _ (Scalar.select (BitVec.ofBool (decide (a = (FloatOps.ofBits (F := Ideal) .f32 0x00000000#32 : EReal)))) _ a) : EReal) = a
    rw [select_ofBool, select_ofBool, h0]
    by_cases h : a = 0 <;> simp [h]
  unfold Cert.ReferenceIdeal.comparator_f32_d0
  show (FloatOps.cmpfTotal (F := Ideal) (φ := .f32) .lt _ _ == 1#1) = _
  rw [key a, key b, Ideal.cmpfTotal_def]
  show (BitVec.ofBool (decide (a < b)) == 1#1) = _
  cases decide (a < b) <;> rfl

/-- The reference at an element: its column, sorted. -/
theorem reference_apply (x : FVec Ideal SX .f32) (k : Fin 8192) (g : Fin 128) :
    (Host.sort SX 0 (Cert.ReferenceIdeal.comparator_f32_d0 (F := Ideal)) x (ix2 k g) : EReal)
      = Network.apply (sortNet 13 false) (fun i : Fin (2 ^ 13) => (x (ix2 i g) : EReal)) k := by
  have hal : ∀ i : Fin 8192, (ix2 (n0 := 8192) (n1 := 128) k g : SX.Idx).along (0 : Fin 2) i = ix2 i g := by
    intro i
    funext d
    match d with
    | ⟨0, _⟩ => exact Fin.ext rfl
    | ⟨1, _⟩ => exact Fin.ext rfl
  rw [net_eq_sorted]
  refine (congrArg x (hal _)).trans ?_
  refine congrArg (fun R : Fin 8192 → Fin 8192 → Bool => x (ix2 (sortedFrom R k) g)) ?_
  funext a b
  show (Cert.ReferenceIdeal.comparator_f32_d0 (F := Ideal) (x ((ix2 k g : SX.Idx).along (0 : Fin 2) a))
    (x ((ix2 k g : SX.Idx).along (0 : Fin 2) b)) == 1#1) = _
  refine (comparator_lt _ _).trans ?_
  exact congrArg₂ (fun u v : SX.Idx => decide ((x u : EReal) < (x v : EReal))) (hal a) (hal b)

/-- A block at an element. -/
theorem block_ix2 (c : Fin 32) (v : SX.Idx → EReal) (l : Fin 256) (g : Fin 128) (k : Fin 8192) (hk : k.val = 256 * c.val + l.val) :
    Layout.block ⟨2, ![256, 128]⟩ SX 0 32 c v (by decide) (ix2 l g) = v (ix2 k g) := by
  rw [Layout.block_apply]
  refine congrArg v (funext fun d => ?_)
  match d with
  | ⟨0, _⟩ => exact Fin.ext (by show c.val * 256 + l.val = k.val; omega)
  | ⟨1, _⟩ => exact Fin.ext rfl

/-- The transposed block of a device. -/
theorem first_apply (X : FVec Ideal S256x128 .f32) (a : Fin 128) (b : Fin 256) : k0_pay1 X (ix2 a b) = X (ix2 b a) := by
  unfold k0_pay1
  rw [shapeCast_self, shapeCast_self]
  exact transpose_apply _ _ _ _ _ fun d => match d with
    | ⟨0, _⟩ => rfl
    | ⟨1, _⟩ => rfl

theorem last_apply (V : FVec Ideal S128x256 .f32) (b : Fin 256) (a : Fin 128) : k0_pay110 V (ix2 b a) = V (ix2 a b) := by
  unfold k0_pay110
  exact transpose_apply _ _ _ _ _ fun d => match d with
    | ⟨0, _⟩ => rfl
    | ⟨1, _⟩ => rfl

/-- What device `q` gathers is its four columns of the whole array. -/
theorem gathered (x : FVec Ideal SX .f32) (xv : Dev nD → Vec Ideal S256x128 .f32)
    (hx : ∀ c : Dev nD, xv c = Layout.block ⟨2, ![256, 128]⟩ SX 0 32 c x (by decide)) (g : Fin 128) (q : Dev nD) (r : Fin 4)
    (hg : g.val = 4 * q.val + r.val) :
    column r (swp (fun p => k0_pay1 (xv p)) q) = fun i : Fin (2 ^ 13) => (x (ix2 i g) : EReal) := by
  funext i
  have hi : i.val < 8192 := i.isLt
  have hr := r.isLt
  have hq : q.val < 32 := q.isLt
  have e : ∀ (p : Dev nD) (a : Fin 128) (b : Fin 256), a = g → i.val = 256 * p.val + b.val → k0_pay1 (xv p) (ix2 a b) = x (ix2 i g) := by
    rintro p a b rfl hib
    rw [first_apply, hx]
    exact block_ix2 p x b a i hib
  refine e _ _ _ (Fin.ext ?_) ?_
  · show 4 * q.val + (4 * (i.val / 256) + r.val) % 4 = g.val
    omega
  · show i.val = 256 * ((4 * (i.val / 256) + r.val) / 4) + i.val % 256
    omega

/-- Device `c` ends with block `c` of the sorted array. -/
theorem result_block (x : FVec Ideal SX .f32) (xv : Dev nD → Vec Ideal S256x128 .f32)
    (hx : ∀ c : Dev nD, xv c = Layout.block ⟨2, ![256, 128]⟩ SX 0 32 c x (by decide)) (c : Dev nD) :
    result xv c = Layout.block ⟨2, ![256, 128]⟩ SX 0 32 c (Host.sort SX 0 (Cert.ReferenceIdeal.comparator_f32_d0 (F := Ideal)) x) (by decide) := by
  funext j
  obtain ⟨l, g, rfl⟩ : ∃ (l : Fin 256) (g : Fin 128), j = ix2 l g := ⟨j 0, j 1, eq_ix2 j⟩
  have hc : c.val < 32 := c.isLt
  have hl := l.isLt
  have hgl := g.isLt
  have hk : 256 * c.val + l.val < 8192 := by omega
  rw [block_ix2 c _ l g ⟨256 * c.val + l.val, hk⟩ rfl, reference_apply]
  have hq : g.val / 4 < 32 := by omega
  rw [← gathered x xv hx g ⟨g.val / 4, hq⟩ ⟨g.val % 4, Nat.mod_lt _ (by decide)⟩ (by show g.val = 4 * (g.val / 4) + g.val % 4; omega),
    ← column_net]
  unfold result
  rw [last_apply]
  refine congrArg (net k0_pay2 (swp (fun p => k0_pay1 (xv p)) ⟨g.val / 4, hq⟩)) (funext fun d => ?_)
  match d with
  | ⟨0, _⟩ =>
    refine Fin.ext ?_
    show 4 * c.val + g.val % 4 = 4 * ((256 * c.val + l.val) / 256) + g.val % 4
    omega
  | ⟨1, _⟩ =>
    refine Fin.ext ?_
    show l.val = (256 * c.val + l.val) % 256
    omega

end Cert.SortValue

end
-- ==== Proof.lean ====
/-
The claims of this certificate, from the run of the kernel, `Cert.SortKernelIdeal.run`, which holds for every reading of the floats,
from the reference's run, and from the value of the kernel, `Cert.SortValue.result_block`. The kernel is printed twice, and no rewrite
is applied between the two: `same_defs` says that they have the same bodies, so that one run serves both.
-/
module

public import proofs.«01_k».proof.Defs
public import proofs.«01_k».proof.Proof.SortKernelIdealLaunch
public import proofs.«01_k».proof.Proof.SortValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

section Same

local instance : Cert.Kernel.Facts := Cert.Kernel.Gen.facts
local instance : Cert.KernelIdeal.Facts := Cert.KernelIdeal.Gen.facts

variable {F : FTy → Type} [FloatOps F]

/-- The two printed kernels have the same body. -/
theorem same_bodies : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- And the same body tables. -/
theorem same_defs : Cert.Kernel.defs (F := F) = Cert.KernelIdeal.defs (F := F) := congrArg (Pipeline.defs _) same_bodies

end Same

/-- The run of the kernel leaves the argument and the semaphores, for every reading of the floats. -/
theorem leaves {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).1, h.2⟩) (Cert.SortKernelIdeal.run m ρ)

/-- The kernel at machine floats. -/
theorem frame_kernel : Cert.quiescent_Kernel := by
  intro m ρ _
  rw [same_defs]
  exact leaves (F := Bits) m ρ

/-- The kernel at exact floats. -/
theorem frame_ideal : Cert.quiescent_KernelIdeal := fun m ρ _ => leaves (F := Ideal) m ρ

/-- The reference: no operation writes its argument, and it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- At exact floats the kernel computes the reference: the array sorted along its first axis, each device with its block. -/
theorem value : Cert.algebraic_KernelIdeal_ReferenceIdeal := by
  intro m ρ m' ρ' _ hm
  refine ⟨Host.sort Cert.ReferenceIdeal.S8192x128 0 (Cert.ReferenceIdeal.comparator_f32_d0 (F := Ideal))
    (m' ((0 : Dev Cert.ReferenceIdeal.nD).tc.loc Cert.ReferenceIdeal.main_arg0)), ?_, ?_⟩
  · exact (θ_run Cert.KernelIdeal.defs _ _).mono
      (fun _ h c => ⟨((h.1 c).2).trans (Cert.SortValue.result_block _ _ hm c), (h.1 c).1⟩)
      (Cert.SortKernelIdeal.run (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
